-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S512x512 : Shape := ⟨2, ![512, 512]⟩
abbrev S_ : Shape := ⟨0, ![]⟩
abbrev S1 : Shape := ⟨1, ![1]⟩

abbrev nBuf : Space → Nat
  | .hbm => 3
  | .vmem => 1
  | .smem => 1
  | _ => 0

abbrev bufTy : (tb : Table) → Fin (tcTables nBuf tb) → BufTy
  | .hbm, ⟨0, _⟩ => ⟨S1x512x512, .bf16⟩
  | .hbm, ⟨1, _⟩ => ⟨S2, .i32⟩
  | .hbm, ⟨2, _⟩ => ⟨S1x512x512, .bf16⟩
  | .local _ .vmem, ⟨0, _⟩ => ⟨S512x512, .bf16⟩
  | .local _ .smem, ⟨0, _⟩ => ⟨S2, .i32⟩
  | _, _ => ⟨S1x512x512, .bf16⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v19 : BitVec 32 := Scalar.muli v2 c8_i32_9
  let v20 : BitVec 32 := Scalar.addi c0_i32_10 v19
  let c4_i32_11 : BitVec 32 := 4#32
  let v21 : BitVec 32 := Scalar.muli v10 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_cond1 (d0 : Dev nD) (v10 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 1 := Scalar.cmpi .ne v10 v5
  let v13 : BitVec 32 := Scalar.extui v12
  let c0_i32 : BitVec 32 := 0#32
  let v14 : BitVec 1 := Scalar.cmpi .ne v13 c0_i32
  v14

def k0_dev2 (d0 : Dev nD) (v10 : BitVec 32) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v25 : BitVec 32 := Scalar.muli v2 c8_i32_15
  let v26 : BitVec 32 := Scalar.addi c0_i32_16 v25
  let c4_i32_17 : BitVec 32 := 4#32
  let v27 : BitVec 32 := Scalar.muli v10 c4_i32_17
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v29 : BitVec 32 := Scalar.muli v8 c1_i32_18
  let v30 : BitVec 32 := Scalar.addi v28 v29
  v30.toNat

def k0_chk1 (d0 : Dev nD) (v10 : BitVec 32) : Prop :=
  (∀ (k0_h1 : k0_cond1 d0 v10 = 1#1), (k0_dev1 d0 v10) < nD) ∧
  (∀ (k0_h1 : k0_cond1 d0 v10 = 1#1), (k0_dev2 d0 v10) < nD)
theorem k0_dev1_lt : ∀ (d0 : Dev nD) (v10 : BitVec 32) (k0_hw1 : k0_chk1 d0 v10), ∀ (k0_h1 : k0_cond1 d0 v10 = 1#1), (k0_dev1 d0 v10) < nD := fun d0 v10 k0_hw1 k0_h1 => k0_hw1.1 k0_h1
theorem k0_dev2_lt : ∀ (d0 : Dev nD) (v10 : BitVec 32) (k0_hw1 : k0_chk1 d0 v10), ∀ (k0_h1 : k0_cond1 d0 v10 = 1#1), (k0_dev2 d0 v10) < nD := fun d0 v10 k0_hw1 k0_h1 => k0_hw1.2 k0_h1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | .hbm, ⟨14, _⟩ => ⟨S2x512x512, .f32⟩
  | .hbm, ⟨15, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Exchange.lean ====
/-
  The exchange of the two rows of the mesh: who talks to whom, what the table says, what each buffer holds, and the
  schedule of the semaphores.

  Device `c` sits at `(c / 8, c / 4 % 2, c % 4)`. Under the table `[1, 0]` it exchanges its block with `peer c`, the
  device at the other middle coordinate. It copies its block into its scratch buffer, tells its peer that its result
  buffer is free, waits for the same word from the peer, sends the scratch buffer into the peer's result buffer, and
  waits for both ends of the transfer.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

/-- Two copies of the rounds algebra: the pipeline's staging cells use the first, the exchange the second. -/
abbrev UU : Type := UR sig nD τ × UR sig nD τ

local notation "𝕄" => MT nD τ sig Unit (Elt F) ℕ UU ℕ

/-- The pipeline's copy. -/
abbrev EP : Emb (UR sig nD τ) (MT nD τ sig Unit (Elt F) ℕ UU ℕ) := embL
/-- The exchange's copy. -/
abbrev EX : Emb (UR sig nD τ) (MT nD τ sig Unit (Elt F) ℕ UU ℕ) := embR

variable (m : (ℓ : Loc nD τ sig) → Buf (Elt F) ℓ) (ρ : Dev nD → PrngReg)

/-! ## The partner of a device -/

set_option backward.proofsInPublic true in
/-- The device with the other middle coordinate. -/
def peer (c : Dev nD) : Dev nD :=
  ⟨8 * (c.val / 8) + 4 * ((c.val / 4 + 1) % 2) + c.val % 4, by have h : c.val < 16 := c.isLt; show _ < 16; omega⟩

/-- The partner's partner is the device itself. -/
theorem peer_peer (c : Dev nD) : peer (peer c) = c := by revert c; decide

/-- Taking partners, as a permutation of the mesh. -/
def across : Dev nD ≃ Dev nD := ⟨peer, peer, peer_peer, peer_peer⟩

/-! ## The table -/

/-- The word at place `k` of a two-word table. -/
def place (k : Fin 2) : S2.Idx := fun a => ⟨k.val, by fin_cases a; exact k.isLt⟩

/-- On every device the table is `[1, 0]`. -/
def Swapping : Prop := ∀ c : Dev nD,
  (m ((c : Thread nD τ).loc main_arg1) : IVec S2 32) (place 0) = 1#32
    ∧ (m ((c : Thread nD τ).loc main_arg1) : IVec S2 32) (place 1) = 0#32

/-- The middle coordinate of the partner, as the word the table holds for the device. -/
def goal (c : Dev nD) : BitVec 32 := BitVec.ofNat 32 ((c.val / 4 + 1) % 2)

/-- The partner's coordinate differs from the device's own: the branch is taken. -/
theorem goal_cond : ∀ c : Dev nD, k0_cond1 c (goal c) = 1#1 := by decide +kernel
/-- The device signalled is the partner. -/
theorem goal_dev1 : ∀ c : Dev nD, k0_dev1 c (goal c) = (peer c).val := by decide +kernel
/-- The device sent to is the partner. -/
theorem goal_dev2 : ∀ c : Dev nD, k0_dev2 c (goal c) = (peer c).val := by decide +kernel
/-- Both devices named are devices of the mesh. -/
theorem goal_chk (c : Dev nD) : k0_chk1 c (goal c) :=
  ⟨fun _ => by rw [goal_dev1]; exact (peer c).isLt, fun _ => by rw [goal_dev2]; exact (peer c).isLt⟩

/-- The table as staged for the body. -/
abbrev staged (c : Dev nD) : (cc0_stg0_0 : Ref sig .tc).ty.Contents (Elt F) := iblk m c 0 t0_0

/-- The place of the table the body reads. -/
abbrev readAt (c : Dev nD) : Rect S2 := Rect.unit (s := S2) (k0_off1 c) S1.size (k0_off1_inb c)

/-- The word the body reads. -/
abbrev wordOf (c : Dev nD) (t : (cc0_stg0_0 : Ref sig .tc).ty.Contents (Elt F)) : BitVec 32 :=
  ((Memref.whole cc0_stg0_0).access (readAt c) : View sig .tc _ _ _).read (Elt F) t (Shape.Idx.first (s := S1) (numel1_S1.symm ▸ Nat.one_pos))

/-- The word read is the table's word at the device's middle coordinate. -/
theorem wordOf_staged (c : Dev nD) :
    wordOf c (staged m c) = (m ((c : Thread nD τ).loc main_arg1) : IVec S2 32) (place ⟨c.val / 4 % 2, Nat.mod_lt _ (by decide)⟩) := by
  rw [← V_main_arg1 m c]
  show (V m c main_arg1 : IVec S2 32) _ = _
  refine congrArg (V m c main_arg1 : IVec S2 32) (funext fun a => Fin.ext ?_)
  fin_cases a; fin_cases c <;> rfl

variable {m} in
/-- Under the swapping table, the word read is the partner's coordinate. -/
theorem Swapping.word (h : Swapping m) (c : Dev nD) : wordOf c (staged m c) = goal c := by
  rw [wordOf_staged]
  have h2 : c.val / 4 % 2 < 2 := Nat.mod_lt _ (by decide)
  unfold goal
  rcases Nat.lt_succ_iff_lt_or_eq.mp h2 with h0 | h1
  · have e : c.val / 4 % 2 = 0 := by omega
    rw [show (⟨c.val / 4 % 2, h2⟩ : Fin 2) = 0 from Fin.ext e, (h c).1, show (c.val / 4 + 1) % 2 = 1 by omega]
  · rw [show (⟨c.val / 4 % 2, h2⟩ : Fin 2) = 1 from Fin.ext h1, (h c).2, show (c.val / 4 + 1) % 2 = 0 by omega]

/-! ## Buffers and what they hold -/

/-- A device's buffers at launch. -/
abbrev V₀ (c : Dev nD) : Valuation τ sig (Elt F) := fun b => m ((c : Dev nD), b)
/-- A device's buffers once its input has been copied into its result buffer. -/
abbrev V₁ (c : Dev nD) : Valuation τ sig (Elt F) := StableHlo.after hostOps0 (V₀ m c)

/-- The result buffer through the view the body takes of it: its one block of 512 by 512. -/
abbrev rowM : Memref sig .tc .hbm S512x512 .bf16 :=
  ((Memref.whole main_v1).slice (Rect.unit (s := S1x512x512) ![0, 0, 0] S1x512x512.size inb_S1x512x512_S1x512x512_0_0_0) (fun _ => rfl)).squeeze
    S512x512 squeezes_S1x512x512_S512x512
/-- The scratch buffer. -/
abbrev bufM : Memref sig .tc .vmem S512x512 .bf16 := Memref.whole cc0_scratch0

/-- The view of the result buffer is all of it. -/
theorem row_set : rowM.view.set = Finset.univ :=
  (View.set_reshape _ _).trans ((View.set_slice_whole main_v1 _).trans
    (Rect.set_eq_univ_of_whole _ fun a => by fin_cases a <;> exact ⟨rfl, rfl, rfl⟩))
/-- So is the view of the scratch buffer. -/
theorem buf_set : bufM.view.set = Finset.univ := View.set_whole _

/-- What a device brings to the exchange: what its result buffer holds when the kernel starts. -/
abbrev block (c : Dev nD) : (main_v1 : Ref sig .tc).ty.Contents (Elt F) := V₁ m c main_v1
/-- The same, as the scratch buffer holds it. -/
abbrev flat (c : Dev nD) : (cc0_scratch0 : Ref sig .tc).ty.Contents (Elt F) := rowM.view.read (Elt F) (block m c)

/-- Writing the whole result buffer with a block read through the same view leaves that block, whatever it held. -/
theorem row_write (f g : (main_v1 : Ref sig .tc).ty.Contents (Elt F)) :
    rowM.view.write (Elt F) f (rowM.view.read (Elt F) g) Finset.univ = g := by
  rw [View.write_read_eq_piecewise, show rowM.view.setOn Finset.univ = Finset.univ from row_set, Finset.piecewise_univ]

/-- Writing the whole scratch buffer leaves what was written. -/
theorem buf_write (f w : (cc0_scratch0 : Ref sig .tc).ty.Contents (Elt F)) : bufM.view.write (Elt F) f w Finset.univ = w :=
  View.write_whole_univ _ _ _

/-- The result buffer of device `c`, at contents `f`. -/
abbrev rowPts (c : Dev nD) (f : Buf (Elt F) (rowM.view.loc (c : Thread nD τ))) : sProp 𝕄 :=
  rowM.view.loc (c : Thread nD τ) ↦[rowM.view.set]{fullShare} f
/-- The scratch buffer of device `c`, at contents `f`. -/
abbrev bufPts (c : Dev nD) (f : Buf (Elt F) (bufM.view.loc (c : Thread nD τ))) : sProp 𝕄 :=
  bufM.view.loc (c : Thread nD τ) ↦[bufM.view.set]{fullShare} f
/-- The scratch buffer of device `c`, at some contents. -/
abbrev bufAny (c : Dev nD) : sProp 𝕄 :=
  iprop(∃ f : Buf (Elt F) ((c : Thread nD τ).loc cc0_scratch0), ((c : Thread nD τ).loc cc0_scratch0) ↦{fullShare} f)

/-- Owning the result buffer through the body's view is owning it whole. -/
theorem rowPts_eq (c : Dev nD) (f : Buf (Elt F) ((c : Thread nD τ).loc main_v1)) :
    rowPts c f = (((c : Thread nD τ).loc main_v1) ↦{fullShare} f : sProp 𝕄) := by
  unfold rowPts; rw [row_set]
/-- Owning the scratch buffer through its view is owning it whole. -/
theorem bufPts_eq (c : Dev nD) (f : Buf (Elt F) ((c : Thread nD τ).loc cc0_scratch0)) :
    bufPts c f = (((c : Thread nD τ).loc cc0_scratch0) ↦{fullShare} f : sProp 𝕄) := by
  unfold bufPts; rw [buf_set]

/-! ## The semaphores -/

/-- The barrier semaphore, as the body names it. -/
abbrev barS : Sem sig := (SemArray.scalar (sig.barrier 0 rfl) : Sems sig S_).sem
/-- The semaphore of the copy into scratch. -/
abbrev loadS : DmaSem sig := cc0_scratch1.sem
/-- The semaphore of the sending end of the transfer. -/
abbrev sendS : DmaSem sig := cc0_scratch2.sem
/-- The semaphore of the receiving end. -/
abbrev recvS : DmaSem sig := cc0_scratch3.sem

/-- The barrier cell of a device. -/
abbrev barCell (c : Dev nD) : GSem nD τ sig := ((c : Thread nD τ), .reg barS)
/-- The cell of a device's copy into scratch. -/
abbrev loadCell (c : Dev nD) : GSem nD τ sig := ((c : Thread nD τ), .dma loadS)
/-- The cell of a device's sending end. -/
abbrev sendCell (c : Dev nD) : GSem nD τ sig := ((c : Thread nD τ), .dma sendS)
/-- The cell of a device's receiving end. -/
abbrev recvCell (c : Dev nD) : GSem nD τ sig := ((c : Thread nD τ), .dma recvS)

/-- What one copy of the block credits. -/
abbrev N : ℕ := bufM.view.dmaCredit
/-- It is more than nothing. -/
theorem N_pos : 0 < N := View.dmaCredit_pos _ (by decide)
/-- A copy into the result buffer credits as much as one into scratch. -/
theorem row_credit : rowM.view.dmaCredit = N := by rfl

/-! ## The schedule: one round and one payment on every cell -/

/-- Handed over with the barrier's unit: the payer's result buffer, free, and that the payer's receiving cell is open. -/
def barPay (c : Dev nD) : sProp 𝕄 := iprop((∃ f, rowPts (peer c) f) ∗ reached EX (recvCell (peer c)) 0)
/-- Handed over by the copy into scratch: the scratch buffer holding the block, and the result buffer back. -/
def loadPay (c : Dev nD) : sProp 𝕄 := iprop(bufPts c (flat m c) ∗ rowPts c (block m c))
/-- Handed back by the sending end: the scratch buffer. -/
def sendPay (c : Dev nD) : sProp 𝕄 := bufPts c (flat m c)
/-- Handed over by the receiving end: the result buffer holding the partner's block. -/
def recvPay (c : Dev nD) : sProp 𝕄 := rowPts c (block m (peer c))

/-- The payment by semaphore. -/
def pay (c : Dev nD) : SemLoc sig → sProp 𝕄
  | .reg _ => barPay c
  | .dma s => if s = loadS then loadPay m c else if s = sendS then sendPay m c else recvPay m c

/-- Every cell has one round with one payer: a unit on the barrier, a block's credit on the others. -/
def plan : Rounds.Schedule (GSem nD τ sig) Unit 𝕄 where
  duties _ r := if r = 0 then {()} else ∅
  unitless _ := False
  amount g _ _ := match g.2 with
    | .reg _ => 1
    | .dma _ => N
  payload g _ _ := pay m g.1.1 g.2
  amount_pos g _ _ _ := by
    rcases g with ⟨t, s | s⟩
    · exact Nat.one_pos
    · exact N_pos

instance plan_storable (g : GSem nD τ sig) (r : ℕ) (d : Unit) : BI.Storable (upEmb : UEmb _ 𝕄) ((plan (F := F) m).payload g r d) := by
  rcases g with ⟨t, s | s⟩
  · show BI.Storable upEmb (barPay t.1); unfold barPay; infer_instance
  · show BI.Storable upEmb (if s = loadS then loadPay m t.1 else if s = sendS then sendPay m t.1 else recvPay m t.1)
    unfold loadPay sendPay recvPay
    (repeat' split) <;> infer_instance

section Plan

variable (c : Dev nD) (g : GSem nD τ sig)

/-- The one payer of the first round. -/
theorem plan_first : (plan (F := F) m).duties g 0 = {()} := by
  show (if 0 = 0 then {()} else ∅ : Finset Unit) = {()}
  exact if_pos rfl
/-- It is a payer. -/
theorem plan_mem : () ∈ (plan (F := F) m).duties g 0 := by rw [plan_first]; exact Finset.mem_singleton_self _
/-- There is no later round. -/
theorem plan_later : ∀ r, 0 + 1 ≤ r → (plan (F := F) m).duties g r = ∅ := fun r hr => if_neg (by omega)
/-- A round gathers what its one payer brings. -/
theorem plan_expect : (plan (F := F) m).expect g 0 = (plan m).amount g 0 () := by
  unfold Schedule.expect Schedule.amountOf; rw [plan_first, Finset.sum_singleton]
/-- A round hands over what its one payer hands in. -/
theorem plan_rest : bigSep ((plan (F := F) m).duties g 0 \ ∅) (fun u => (plan m).payload g 0 u) = pay m g.1.1 g.2 := by
  rw [Finset.sdiff_empty, plan_first, bigSep_singleton]; rfl

/-- What the barrier hands over. -/
theorem pay_bar : pay m c (.reg barS) = barPay c := rfl
/-- What the copy into scratch hands over. -/
theorem pay_load : pay m c (.dma loadS) = loadPay m c := by
  show (if loadS = loadS then loadPay m c else if loadS = sendS then sendPay m c else recvPay m c) = _
  exact if_pos rfl
/-- What the sending end hands back. -/
theorem pay_send : pay m c (.dma sendS) = sendPay m c := by
  show (if sendS = loadS then loadPay m c else if sendS = sendS then sendPay m c else recvPay m c) = _
  rw [if_neg (by decide), if_pos rfl]
/-- What the receiving end hands over. -/
theorem pay_recv : pay m c (.dma recvS) = recvPay m c := by
  show (if recvS = loadS then loadPay m c else if recvS = sendS then sendPay m c else recvPay m c) = _
  rw [if_neg (by decide), if_neg (by decide)]

end Plan

/-! ## What a device owes, and the order of the waits -/

/-- A device owes its partner a block's arrival and a unit on the barrier. -/
def due (c : Dev nD) : CellTallies nD τ sig Unit := tallyAt (recvCell (peer c)) () N + tallyAt (barCell (peer c)) () 1

/-- The cells of the TensorCores carry a level. -/
def L (g : GSem nD τ sig) : Finset Unit := if g.1.2 = .tc then {()} else ∅
/-- Barriers are at level 1, arrivals at level 2, every other cell at level 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (s : SemLoc sig) : L ((c : Thread nD τ), s) = {()} := if_pos rfl
theorem mem_L (c : Dev nD) (s : SemLoc sig) : () ∈ L ((c : Thread nD τ), s) := by rw [L_tc]; exact Finset.mem_singleton_self _
theorem lv_bar (c : Dev nD) : lv (barCell c) () = 1 := if_pos rfl
theorem lv_recv (c : Dev nD) : lv (recvCell c) () = 2 := (if_neg (fun h => by cases h)).trans (if_pos rfl)
theorem lv_dma (c : Dev nD) (s : DmaSem sig) (h : s ≠ recvS) : lv ((c : Thread nD τ), .dma s) () = 0 :=
  (if_neg (fun h => by cases h)).trans (if_neg fun h' => h (by cases h'; rfl))

/-- A debt at one cell is a debt at that cell only. -/
theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

/-- Whatever a device owes is an arrival or a barrier unit of its partner. -/
theorem due_pos {c : Dev nD} {g : GSem nD τ sig} {u : Unit} (h : 0 < due c g u) : g = recvCell (peer c) ∨ g = barCell (peer c) := by
  unfold due at h
  rw [Pi.add_apply, Finsupp.add_apply] at h
  rcases Nat.add_pos_iff_pos_or_pos.mp h with h | h
  · exact .inl (tally_pos h)
  · exact .inr (tally_pos h)

/-- Everything a device owes is at a level above 0. -/
theorem due_above {c : Dev nD} {g : GSem nD τ sig} {u : Unit} (h : 0 < due c g u) : u ∈ L g ∧ 0 < lv g u := by
  cases u
  rcases due_pos h with rfl | rfl
  · exact ⟨mem_L _ _, by rw [lv_recv]; decide⟩
  · exact ⟨mem_L _ _, by rw [lv_bar]; decide⟩

/-- A device may wait for its own copy into scratch while it owes both. -/
theorem wait_load (c : Dev nD) : (levAts L lv : sProp 𝕄) ⊢ MayWait (c : Thread nD τ) (.dma loadS) () (due c) :=
  MayOwe.of_cut (L := L) (lev := lv) 0 (fun p hp => by rw [Finset.mem_singleton.mp hp]; exact mem_L _ _)
    (fun g u hg => (due_above hg).1)
    (fun p hp => by rw [Finset.mem_singleton.mp hp]; exact le_of_eq (lv_dma c loadS (by decide)))
    (fun g u hg => (due_above hg).2)

/-- It may wait for its barrier while it owes its partner's arrival. -/
theorem wait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp]; exact mem_L _ _)
    (fun g u hg => by rw [tally_pos hg]; exact mem_L _ _)
    (fun p hp => by rw [Finset.mem_singleton.mp hp]; exact le_of_eq (lv_bar c))
    (fun g u hg => by rw [tally_pos hg, lv_recv]; decide)

/-! ## The records every device may consult, and what is each device's own -/

/-- The scoped semaphores of the kernel, beside the pipeline's staging one. -/
abbrev own : Fin 3 → SemLoc sig := fun | 0 => .dma loadS | 1 => .dma sendS | 2 => .dma recvS
theorem own_inj : Function.Injective own := by decide
theorem own_ne_bar : ∀ k : Fin 3, own k ≠ .reg barS := by decide

/-- The barrier cells, one to a device. -/
def barEmb : Dev nD ↪ GSem nD τ sig := ⟨fun c => barCell c, fun _ _ h => congrArg (fun g : GSem nD τ sig => g.1.1) h⟩
/-- The scoped cells, three to a device. -/
def ownEmb : Dev nD × Fin 3 ↪ GSem nD τ sig :=
  ⟨fun ck => ((ck.1 : Thread nD τ), own ck.2), fun _ _ h =>
    Prod.ext (congrArg (fun g : GSem nD τ sig => g.1.1) h) (own_inj (congrArg Prod.snd h))⟩

/-- The barrier cells: their counters are there from the launch on. -/
abbrev liveCells : Finset (GSem nD τ sig) := Finset.univ.map barEmb
/-- The scoped cells: each is opened when its device enters the kernel. -/
abbrev sleepCells : Finset (GSem nD τ sig) := Finset.univ.map ownEmb

theorem live_mem (c : Dev nD) : barCell c ∈ (liveCells : Finset (GSem nD τ sig)) := Finset.mem_map_of_mem barEmb (Finset.mem_univ c)
theorem sleep_mem (c : Dev nD) (k : Fin 3) : ((c : Thread nD τ), own k) ∈ (sleepCells : Finset (GSem nD τ sig)) :=
  Finset.mem_map_of_mem ownEmb (Finset.mem_univ (c, k))

/-- No barrier cell is a scoped one. -/
theorem cells_disjoint : Disjoint (liveCells : Finset (GSem nD τ sig)) sleepCells := by
  rw [Finset.disjoint_left]
  rintro g h₁ h₂
  obtain ⟨c, -, rfl⟩ := Finset.mem_map.mp h₁
  obtain ⟨ck, -, h⟩ := Finset.mem_map.mp h₂
  exact own_ne_bar ck.2 (congrArg Prod.snd h)

/-- Every cell follows the schedule, and every barrier is in its first round. -/
def books (κ : GSem nD τ sig → ℕ) : sProp 𝕄 :=
  iprop((bigSep (liveCells ∪ sleepCells) fun g => cellInv EX (plan m) (κ g) g) ∗ bigSep liveCells fun g => reached EX g 0)

instance books_persistent (κ : GSem nD τ sig → ℕ) : BI.Persistent (books m κ) := by unfold books; infer_instance

/-- The barrier cell of a device follows the schedule. -/
theorem books_bar (κ : GSem nD τ sig → ℕ) (c : Dev nD) : books m κ ⊢ cellInv EX (plan m) (κ (barCell c)) (barCell c) := by
  unfold books; iintro ⟨H, -⟩
  iapply (show _ ⊢ _ from bigSep_elim (Φ := fun g => (cellInv EX (plan m) (κ g) g : sProp 𝕄)) (Finset.mem_union_left sleepCells (live_mem c))) $$ H
/-- So does each of its scoped cells. -/
theorem books_own (κ : GSem nD τ sig → ℕ) (c : Dev nD) (k : Fin 3) :
    books m κ ⊢ cellInv EX (plan m) (κ ((c : Thread nD τ), own k)) ((c : Thread nD τ), own k) := by
  unfold books; iintro ⟨H, -⟩
  iapply (show _ ⊢ _ from bigSep_elim (Φ := fun g => (cellInv EX (plan m) (κ g) g : sProp 𝕄)) (Finset.mem_union_right liveCells (sleep_mem c k))) $$ H
/-- Its barrier is in its first round. -/
theorem books_reached (κ : GSem nD τ sig → ℕ) (c : Dev nD) : books m κ ⊢ reached EX (barCell c) 0 := by
  unfold books; iintro ⟨-, H⟩
  iapply (show _ ⊢ _ from bigSep_elim (Φ := fun g => (reached EX g 0 : sProp 𝕄)) (live_mem c)) $$ H

/-- The rights to pay that a device holds: its own copy and sending end, its partner's barrier and receiving end. -/
def rights (c : Dev nD) : sProp 𝕄 :=
  iprop(dutyTok EX (barCell (peer c)) 0 () ∗ dutyTok EX (loadCell c) 0 () ∗ dutyTok EX (sendCell c) 0 () ∗ dutyTok EX (recvCell (peer c)) 0 ())

/-- The credits a device waits with that others pay. -/
def credits (c : Dev nD) : sProp 𝕄 := iprop(cred (tallyAt (barCell c) () 1) ∗ cred (tallyAt (recvCell c) () N))

/-- What a device takes from the launch to the kernel. -/
def carried (c : Dev nD) : sProp 𝕄 :=
  iprop((∃ κ, books m κ ∗ atPos EX (barCell c) 0 ∅ 0 ∗ (openTok EX (loadCell c) ∗ openTok EX (sendCell c) ∗ openTok EX (recvCell c)) ∗ rights c)
    ∗ credits c)

/-- What it holds once its scoped cells are open. -/
def opened (κ : GSem nD τ sig → ℕ) (c : Dev nD) : sProp 𝕄 :=
  iprop(books m κ ∗ atPos EX (barCell c) 0 ∅ 0
    ∗ ((atPos EX (loadCell c) 0 ∅ 0 ∗ reached EX (loadCell c) 0) ∗ (atPos EX (sendCell c) 0 ∅ 0 ∗ reached EX (sendCell c) 0)
      ∗ (atPos EX (recvCell c) 0 ∅ 0 ∗ reached EX (recvCell c) 0))
    ∗ rights c)

/-- The counters of a device's scoped cells at zero. -/
def resting (c : Dev nD) : sProp 𝕄 := iprop(semVal (loadCell c) 0 ∗ semVal (sendCell c) 0 ∗ semVal (recvCell c) 0)

/-- A cell past its one round gives its counter back at zero. -/
theorem shut (κ : ℕ) (g : GSem nD τ sig) :
    iprop(cellInv EX (plan m) κ g ∗ atPos EX g (0 + 1) ∅ 0) ⊢ (|={Set.univ}=> semVal g 0 : sProp 𝕄) :=
  Rounds.cell_close EX (plan m) (Set.mem_univ κ) id (plan_later m g)

/-- A sleeping cell and its counter at zero make an open cell in its first round. -/
theorem wake (κ : ℕ) (g : GSem nD τ sig) :
    iprop(cellInv EX (plan m) κ g ∗ openTok EX g ∗ semVal g 0) ⊢ (|={Set.univ}=> iprop(atPos EX g 0 ∅ 0 ∗ reached EX g 0) : sProp 𝕄) :=
  Rounds.cell_open EX (plan m) (Set.mem_univ κ)

/-- Entering the kernel, a device opens its three scoped cells. -/
theorem open_own (c : Dev nD) : iprop(carried m c ∗ resting c) ⊢ (|={Set.univ}=> iprop((∃ κ, opened m κ c) ∗ credits c) : sProp 𝕄) := by
  unfold carried resting
  iintro ⟨⟨⟨%κ, #HB, Hat, ⟨Ho1, Ho2, Ho3⟩, Hr⟩, Hc⟩, Hs1, Hs2, Hs3⟩
  imod (wake m (κ (loadCell c)) (loadCell c)) $$ [Ho1 Hs1] with H1
  · isplitr; · iapply (books_own m κ c 0); iexact HB
    isplitl [Ho1] <;> iassumption
  imod (wake m (κ (sendCell c)) (sendCell c)) $$ [Ho2 Hs2] with H2
  · isplitr; · iapply (books_own m κ c 1); iexact HB
    isplitl [Ho2] <;> iassumption
  imod (wake m (κ (recvCell c)) (recvCell c)) $$ [Ho3 Hs3] with H3
  · isplitr; · iapply (books_own m κ c 2); iexact HB
    isplitl [Ho3] <;> iassumption
  imodintro
  isplitr [Hc]
  · iexists κ
    unfold opened
    isplitr; · iexact HB
    isplitl [Hat]; · iexact Hat
    isplitl [H1 H2 H3]
    · isplitl [H1]; · iexact H1
      isplitl [H2] <;> iassumption
    iexact Hr
  iexact Hc

end Cert.Exchange

end
-- ==== Proof.ExchangeBody.lean ====
/-
  The kernel's body, effect by effect, on one device: from its block in its result buffer to its partner's block there,
  every counter it touched back at zero.
-/
module

public import proofs.«01_k».proof.Proof.Exchange

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No recursion to measure. -/
abbrev 𝒱₀ : Variants := Variants.none

/-- The staged table's buffer on device `c`, at contents `t`. -/
abbrev tabPts (c : Dev nD) (t : (cc0_stg0_0 : Ref sig .tc).ty.Contents (Elt F)) : sProp 𝕄 :=
  ((c : Thread nD τ).loc cc0_stg0_0) ↦{fullShare} t

/-- What the body starts from. -/
def before (κ : GSem nD τ sig → ℕ) (c : Dev nD) (W : Waits sig Unit) : sProp 𝕄 :=
  iprop(opened m κ c ∗ credits c ∗ levAts L lv ∗ rowPts c (block m c) ∗ bufAny c ∗ tabPts c (staged m c) ∗ owes (c : Thread nD τ) (due c) W)

/-- What it ends with: its partner's block, its counters at zero, nothing owed. -/
def afterwards (c : Dev nD) : sProp 𝕄 :=
  iprop(semVal (barCell c) 0 ∗ resting c ∗ rowPts c (block m (peer c)) ∗ bufAny c ∗ tabPts c (staged m c)
    ∗ ∃ W, owes (c : Thread nD τ) (0 : CellTallies nD τ sig Unit) W)

section Steps

variable (κ : GSem nD τ sig → ℕ) (c : Dev nD) (W : Waits sig Unit) {α : Type} {Q : α → sProp (MT nD τ sig Unit (Elt F) ℕ UU ℕ)}
  {k : PUnit → Prog (TpuEff nD τ sig (Elt F) Λ₀ .tc) α}

/-- Signalling the partner hands over the device's own result buffer, and pays the debt of a unit. -/
theorem step_signal (n : Dev nD) (hn : n = peer c) (f : Buf (Elt F) ((c : Thread nD τ).loc main_v1)) :
    iprop(books m κ ∗ owes (c : Thread nD τ) (due c) W ∗ dutyTok EX (barCell (peer c)) 0 () ∗ rowPts c f ∗ reached EX (recvCell c) 0)
      ⊢ iprop((owes (c : Thread nD τ) (tallyAt (recvCell (peer c)) () N) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32 : BitVec 32).toInt) k) Q) := by
  subst hn
  rw [show (1#32 : BitVec 32).toInt = ((1#32 : BitVec 32).toNat : Int) from rfl]
  iintro ⟨#HB, HO, Ht, Hrow, Hr⟩ Hk
  iapply (Rounds.wp_signal 𝒱₀ EX (plan m) (c : Thread nD τ) none (dst := (peer c : Thread nD τ)) (sem := barS) (r := 0) (d := ()) (κ := κ (barCell (peer c)))
      (plan_mem m _) (show (plan (F := F) m).amount (barCell (peer c)) 0 () = (1#32 : BitVec 32).toNat from rfl) ()
      (O₀ := due c) (tallyAt (recvCell (peer c)) () N) rfl) $$ [HO Ht Hrow Hr]
  · isplitr; · iapply (books_bar m κ (peer c)); iexact HB
    isplitl [HO]; · iexact HO
    isplitl [Ht]; · iexact Ht
    isplitl [Hrow Hr]
    · rw [show (plan m).payload (barCell (peer c)) 0 () = barPay (F := F) (peer c) from rfl]
      unfold barPay
      rw [peer_peer]
      isplitl [Hrow]; · iexists f; iexact Hrow
      iexact Hr
    iapply (books_reached m κ (peer c)); iexact HB
  iexact Hk

/-- Waiting on the barrier brings the partner's result buffer. -/
theorem step_barrier :
    iprop(books m κ ∗ levAts L lv ∗ cred (tallyAt (barCell c) () 1) ∗ owes (c : Thread nD τ) (tallyAt (recvCell (peer c)) () N) W ∗ atPos EX (barCell c) 0 ∅ 0)
      ⊢ iprop(((owes (c : Thread nD τ) (tallyAt (recvCell (peer c)) () N) (insert (SemLoc.reg barS, ()) W) ∗ atPos EX (barCell c) (0 + 1) ∅ 0 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32 : BitVec 32).toInt) k) Q) := by
  rw [show (1#32 : BitVec 32).toInt = ((1#32 : BitVec 32).toNat : Int) from rfl]
  iintro ⟨#HB, #Hlev, Hc, HO, Hat⟩ Hk
  iapply (Rounds.wp_wait_rest_token 𝒱₀ EX (plan m) (c : Thread nD τ) none (κ := κ (barCell c))
      (wpE_semWait_eq 𝒱₀ (c : Thread nD τ) none Set.univ) (Set.mem_univ _) () (O := tallyAt (recvCell (peer c)) () N) (W := W) (R := 0) (m := 0) (T := ∅)
      (by rw [plan_expect]; rfl)) $$ [Hc HO Hat]
  · isplitr; · iapply (books_bar m κ c); iexact HB
    isplitl [Hc]; · iexact Hc
    isplitl [HO]; · iexact HO
    isplitr; · iapply (wait_bar c); iexact Hlev
    iexact Hat
  iintro ⟨HO, Hat, -, Hp⟩
  ihave Hp' := (Entails.of_eq ((plan_rest m (barCell c)).trans (pay_bar m c))) $$ Hp
  iapply Hk
  isplitl [HO]; · iexact HO
  isplitl [Hat] <;> iassumption

/-- Sending the scratch buffer into the partner's result buffer: the scratch buffer comes back at the sending end, the
    partner's result buffer goes to its receiving end, and the debt of an arrival is paid. -/
theorem step_send (n : Dev nD) (hn : n = peer c) (f : Buf (Elt F) ((peer c : Thread nD τ).loc main_v1))
    {hsc : rowM.view.ref.isScScratch = false} {hsrc : bufM.view.WordExact} {hdst : rowM.view.WordExact}
    {hsem : DmaTarget.Typed (nD := nD) (τ := τ) .vmem (.dma recvS) (.remote (Dev.tc n) rowM (.dma sendS) hsc)} :
    iprop(books m κ ∗ bufPts c (flat m c) ∗ rowPts (peer c) f ∗ owes (c : Thread nD τ) (tallyAt (recvCell (peer c)) () N) W
        ∗ dutyTok EX (sendCell c) 0 () ∗ reached EX (sendCell c) 0 ∗ dutyTok EX (recvCell (peer c)) 0 () ∗ reached EX (recvCell (peer c)) 0)
      ⊢ iprop(((cred (tallyAt (sendCell c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma bufM (.remote (Dev.tc n) rowM (.dma sendS) hsc) (.dma recvS) hsrc hdst hsem) k) Q) := by
  subst hn
  iintro ⟨#HB, Hbuf, Hrow, HO, HtS, HrS, HtV, HrV⟩ Hk
  iapply (Rounds.wp_send_pointsTo 𝒱₀ EX (plan m) (c : Thread nD τ) none (c' := (peer c : Thread nD τ)) (src := bufM) (dst := rowM)
      (sS := .dma sendS) (sem := .dma recvS) (q := fullShare) (fs := flat m c) (κ₁ := κ (sendCell c)) (κ₂ := κ (recvCell (peer c)))
      (r₁ := 0) (r₂ := 0) (d₁ := ()) (d₂ := ()) (fd := f)
      (plan_mem m _) (plan_mem m _)
      () () N rfl rfl rfl 0 (by rw [zero_add]) (W := W)
      (by rw [show (plan m).payload (sendCell c) 0 () = sendPay m c from pay_send m c]; exact BI.Entails.refl _)
      (by rw [show (plan m).payload (recvCell (peer c)) 0 () = recvPay m (peer c) from pay_recv m (peer c)]; unfold recvPay
          rw [peer_peer, View.read_whole, row_write])) $$ [Hbuf Hrow HO HtS HrS HtV HrV]
  · isplitr; · iapply (books_own m κ c 1); iexact HB
    isplitr; · iapply (books_own m κ (peer c) 2); iexact HB
    isplitl [Hbuf]; · iexact Hbuf
    isplitl [Hrow]; · iexact Hrow
    isplitl [HO]; · iexact HO
    isplitl [HtS]; · iexact HtS
    isplitl [HrS]; · iexact HrS
    isplitl [HtV] <;> iassumption
  iexact Hk

end Steps

set_option maxHeartbeats 4000000 in
/-- The body on device `c` under the swapping table. -/
theorem body_run (hsw : Swapping m) (κ : GSem nD τ sig → ℕ) (c : Dev nD) (W : Waits sig Unit) (Kt : PUnit → sProp 𝕄) :
    iprop(before m κ c W ∗ (afterwards m c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            (Memref.whole main_v1) (Memref.isWhole_whole _) (Memref.whole cc0_scratch0) (Memref.isWhole_whole _) cc0_scratch1 cc0_scratch2 cc0_scratch3) Kt := by
  have hword : wordOf c (staged m c) = goal c := hsw.word c
  have hchk : k0_chk1 c (wordOf c (staged m c)) := by rw [hword]; exact goal_chk c
  have hcond : k0_cond1 c (wordOf c (staged m c)) = 1#1 := by rw [hword]; exact goal_cond c
  have hdev1 : k0_dev1 c (wordOf c (staged m c)) = (peer c).val := by rw [hword]; exact goal_dev1 c
  have hdev2 : k0_dev2 c (wordOf c (staged m c)) = (peer c).val := by rw [hword]; exact goal_dev2 c
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold before opened rights credits
  iintro ⟨⟨⟨#HB, HatB, ⟨⟨HatL, #HrL⟩, ⟨HatS, #HrS⟩, HatV, #HrV⟩, HtB, HtL, HtS, HtV⟩, ⟨HcB, HcV⟩, #Hlev, Hrow, ⟨%f0, Hbuf0⟩, Htab, HO⟩, Hk⟩
  ihave Hbuf := (Entails.of_eq (bufPts_eq c f0).symm) $$ Hbuf0
  -- the table's word
  iapply (wp_load_rect 𝒱₀ (c : Thread nD τ) none Set.univ (m := (Memref.whole cc0_stg0_0)) (r := readAt c) (Finset.subset_univ _)) $$ Htab; iintro Htab
  simp only [wp_assume_of _ _ _ _ (d := k0_chk1.dec _ _) hchk]
  simp only [dif_pos hcond, Prog.bind_op, Prog.bind_ret, Prog.pure_eq_ret, Prog.bind_assoc]
  -- the copy into scratch, and its wait
  iapply (Rounds.wp_copy_pointsTo 𝒱₀ EX (plan m) (c : Thread nD τ) none (src := rowM) (dst := bufM) (sem := .dma loadS) (q := fullShare)
      (fs := block m c) (fd := f0) (r := 0) (d := ()) (κ := κ (loadCell c))
      (plan_mem m _) () N rfl rfl
      (by rw [show (plan m).payload (loadCell c) 0 () = loadPay m c from pay_load m c]; unfold loadPay; rw [buf_write])) $$ [Hrow Hbuf HtL]
  · isplitr; · iapply (books_own m κ c 0); iexact HB
    isplitl [Hrow]; · iexact Hrow
    isplitl [Hbuf]; · iexact Hbuf
    isplitl [HtL]; · iexact HtL
    iexact HrL
  iintro HcL
  iapply (Rounds.wp_wait_rest_token 𝒱₀ EX (plan m) (c : Thread nD τ) none (κ := κ (loadCell c))
      (wpE_waitDma2_eq (src := rowM) (dst := bufM) 𝒱₀ (c : Thread nD τ) none Set.univ) (Set.mem_univ _) () (O := due c) (W := W) (R := 0) (m := 0) (T := ∅)
      (by rw [plan_expect]; exact Nat.zero_add _)) $$ [HcL HO HatL]
  · isplitr; · iapply (books_own m κ c 0); iexact HB
    isplitl [HcL]; · iexact HcL
    isplitl [HO]; · iexact HO
    isplitr; · iapply (wait_load c); iexact Hlev
    iexact HatL
  iintro ⟨HO, HatL, -, Hp⟩
  ihave Hp' := (Entails.of_eq ((plan_rest m (loadCell c)).trans (pay_load m c))) $$ Hp
  unfold loadPay
  icases Hp' with ⟨Hbuf, Hrow⟩
  -- the barrier: hand over the own result buffer, receive the partner's
  iapply (step_signal m κ c _ _ (Fin.ext hdev1) (block m c)) $$ [HO HtB Hrow]
  · isplitr; · iexact HB
    isplitl [HO]; · iexact HO
    isplitl [HtB]; · iexact HtB
    isplitl [Hrow]; · iexact Hrow
    iexact HrV
  iintro HO
  iapply (step_barrier m κ c _) $$ [HcB HO HatB]
  · isplitr; · iexact HB
    isplitr; · iexact Hlev
    isplitl [HcB]; · iexact HcB
    isplitl [HO] <;> iassumption
  iintro ⟨HO, HatB, Hp⟩
  unfold barPay
  icases Hp with ⟨⟨%fn, HrowP⟩, #HrVP⟩
  -- the transfer into the partner's result buffer
  iapply (step_send m κ c _ _ (Fin.ext hdev2) fn) $$ [Hbuf HrowP HO HtS HtV]
  · isplitr; · iexact HB
    isplitl [Hbuf]; · iexact Hbuf
    isplitl [HrowP]; · iexact HrowP
    isplitl [HO]; · iexact HO
    isplitl [HtS]; · iexact HtS
    isplitr; · iexact HrS
    isplitl [HtV]; · iexact HtV
    iexact HrVP
  iintro ⟨HcS, HO⟩
  -- both ends complete: the scratch buffer comes back, and the own result buffer with the partner's block
  iapply (Rounds.wp_wait_rest_token 𝒱₀ EX (plan m) (c : Thread nD τ) none (κ := κ (sendCell c))
      (wpE_waitDma2_eq (src := rowM) (dst := bufM) 𝒱₀ (c : Thread nD τ) none Set.univ) (Set.mem_univ _) () (O := 0) (R := 0) (m := 0) (T := ∅)
      (by rw [plan_expect]; exact Nat.zero_add _)) $$ [HcS HO HatS]
  · isplitr; · iapply (books_own m κ c 1); iexact HB
    isplitl [HcS]; · iexact HcS
    isplitl [HO]; · iexact HO
    isplitr; · rw [MayWait_zero]; iempintro
    iexact HatS
  iintro ⟨HO, HatS, -, Hp⟩
  ihave Hbuf := (Entails.of_eq ((plan_rest m (sendCell c)).trans (pay_send m c))) $$ Hp
  iapply (Rounds.wp_wait_rest_token 𝒱₀ EX (plan m) (c : Thread nD τ) none (κ := κ (recvCell c))
      (wpE_waitDma2_eq (src := bufM) (dst := rowM) 𝒱₀ (c : Thread nD τ) none Set.univ) (Set.mem_univ _) () (O := 0) (R := 0) (m := 0) (T := ∅)
      (by rw [plan_expect]; exact Nat.zero_add _)) $$ [HcV HO HatV]
  · isplitr; · iapply (books_own m κ c 2); iexact HB
    isplitl [HcV]; · iexact HcV
    isplitl [HO]; · iexact HO
    isplitr; · rw [MayWait_zero]; iempintro
    iexact HatV
  iintro ⟨HO, HatV, -, Hp⟩
  ihave Hrow := (Entails.of_eq ((plan_rest m (recvCell c)).trans (pay_recv m c))) $$ Hp
  unfold sendPay recvPay
  -- every cell gives its counter back
  rw [wp_ret]
  imod (shut m (κ (barCell c)) (barCell c)) $$ [HatB] with Hz0
  · isplitr; · iapply (books_bar m κ c); iexact HB
    iexact HatB
  imod (shut m (κ (loadCell c)) (loadCell c)) $$ [HatL] with Hz1
  · isplitr; · iapply (books_own m κ c 0); iexact HB
    iexact HatL
  imod (shut m (κ (sendCell c)) (sendCell c)) $$ [HatS] with Hz2
  · isplitr; · iapply (books_own m κ c 1); iexact HB
    iexact HatS
  imod (shut m (κ (recvCell c)) (recvCell c)) $$ [HatV] with Hz3
  · isplitr; · iapply (books_own m κ c 2); iexact HB
    iexact HatV
  imodintro
  iapply Hk
  unfold afterwards resting
  isplitl [Hz0]; · iexact Hz0
  isplitl [Hz1 Hz2 Hz3]
  · isplitl [Hz1]; · iexact Hz1
    isplitl [Hz2] <;> iassumption
  isplitl [Hrow]; · iexact Hrow
  isplitl [Hbuf]; · iexists (flat m c); iapply (Entails.of_eq (bufPts_eq c (flat m c))) $$ Hbuf
  isplitl [Htab]; · iexact Htab
  iexists _; iexact HO

end Cert.Exchange

end
-- ==== Proof.ExchangeRun.lean ====
/-
  The whole program on the mesh: the copy of the input into the result buffer, then the kernel on every device.
-/
module

public import proofs.«01_k».proof.Proof.ExchangeBody
public import Idealize.ShloMosaic.Harness.Basic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-- Over three indices the separating conjunction is written out. -/
theorem over_three (Φ : Fin 3 → sProp 𝕄) : bigSep Finset.univ Φ = iprop(Φ 0 ∗ Φ 1 ∗ Φ 2) := bigSep_univ_eq_bigSepL [0, 1, 2] (by decide) (by decide) Φ
/-- And over four. -/
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The buffers the program holds between its steps -/

/-- A device's buffers at the end: its result buffer holds its partner's block. -/
abbrev V₂ (c : Dev nD) : Valuation τ sig (Elt F) := Function.update (V₁ m c) (Proc.devRef .tc main_v1) (block m (peer c))

theorem V₂_v1 (c : Dev nD) : V₂ m c main_v1 = block m (peer c) := Function.update_self ..
theorem V₂_arg0 (c : Dev nD) : V₂ m c main_arg0 = V₁ m c main_arg0 := Function.update_of_ne (by decide) ..
theorem V₂_arg1 (c : Dev nD) : V₂ m c main_arg1 = V₁ m c main_arg1 := Function.update_of_ne (by decide) ..

/-- What a device brings is its input. -/
theorem block_eq (c : Dev nD) : block m c = m ((c : Thread nD τ).loc main_arg0) := by
  show StableHlo.after [StableHlo.unary main_arg0 main_v1 id] (V₀ m c) (Proc.devRef .tc main_v1) = _
  rw [StableHlo.after_cons, StableHlo.after_nil]
  exact StableHlo.unary_result main_arg0 main_v1 id _ _ _

/-- The buffers that outlive the kernel. -/
def lasting : Finset (DevRef τ sig) := (StableHlo.tcRefs τ sig).filter fun b => ¬ b.isScoped
/-- The buffer the body addresses itself. -/
abbrev addressed : Finset (DevRef τ sig) := {Proc.devRef .tc main_v1}
/-- The buffers that outlive the kernel and that it does not stage. -/
abbrev unstaged : Finset (DevRef τ sig) := {Proc.devRef .tc main_arg0, Proc.devRef .tc main_v1}

/-- One buffer held whole. -/
abbrev whole (c : Dev nD) (b : Ref sig .tc) (f : Buf (Elt F) ((c : Thread nD τ).loc b)) : sProp 𝕄 := ((c : Thread nD τ).loc b) ↦{fullShare} f

theorem lasting_held (c : Dev nD) (W : Valuation τ sig (Elt F)) :
    (unscopedBufs c (fun b => W b) : sProp 𝕄) = StableHlo.held (c : Thread nD τ) lasting W := by
  unfold unscopedBufs StableHlo.held lasting StableHlo.tcRefs
  rw [Finset.filter_map, BI.bigSep_map]
  rfl

theorem lasting_eq (c : Dev nD) (W : Valuation τ sig (Elt F)) : (StableHlo.held (c : Thread nD τ) lasting W : sProp 𝕄)
    = iprop(whole c main_arg0 (W main_arg0) ∗ whole c main_arg1 (W main_arg1) ∗ whole c main_v1 (W main_v1)) := by
  unfold StableHlo.held
  rw [bigSep_eq_bigSepL_of_eq [Proc.devRef .tc main_arg0, Proc.devRef .tc main_arg1, Proc.devRef .tc main_v1] (by decide) (by decide)]
  rfl

theorem addressed_eq (c : Dev nD) (W : Valuation τ sig (Elt F)) :
    (StableHlo.held (c : Thread nD τ) addressed W : sProp 𝕄) = whole c main_v1 (W main_v1) := by
  unfold StableHlo.held
  rw [bigSep_eq_bigSepL_of_eq [Proc.devRef .tc main_v1] (by decide) (by decide)]
  rfl

theorem unstaged_eq (c : Dev nD) (W : Valuation τ sig (Elt F)) :
    (StableHlo.held (c : Thread nD τ) unstaged W : sProp 𝕄) = iprop(whole c main_arg0 (W main_arg0) ∗ whole c main_v1 (W main_v1)) := by
  unfold StableHlo.held
  rw [bigSep_eq_bigSepL_of_eq [Proc.devRef .tc main_arg0, Proc.devRef .tc main_v1] (by decide) (by decide)]
  rfl

theorem table_eq (c : Dev nD) (W : Valuation τ sig (Elt F)) :
    (StableHlo.held (c : Thread nD τ) (Pipeline.arrRefs (τ := τ) (pcfgs (F := F) 0).spec) W : sProp 𝕄) = whole c main_arg1 (W main_arg1) := by
  unfold StableHlo.held
  rw [show Pipeline.arrRefs (τ := τ) (pcfgs (F := F) 0).spec = {Proc.devRef .tc main_arg1} from (by decide : Pipeline.arrRefs (τ := τ) spec0 = {Proc.devRef .tc main_arg1})]
  rw [bigSep_eq_bigSepL_of_eq [Proc.devRef .tc main_arg1] (by decide) (by decide)]
  rfl

theorem bar_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem resting_eq (c : Dev nD) : (Pipeline.ownSems0 own c : sProp 𝕄) = resting c := by
  unfold Pipeline.ownSems0 resting; rw [over_three]

/-! ## The kernel's proof data -/

/-- What the kernel holds of its own before its one point. -/
def entering (c : Dev nD) : sProp 𝕄 :=
  iprop(((∃ κ, opened m κ c) ∗ credits c ∗ levAts L lv) ∗ rowPts c (block m c) ∗ bufAny c ∗ ∃ r, prngReg c r)
/-- What it holds after it. -/
def leaving (c : Dev nD) : sProp 𝕄 :=
  iprop(semVal (barCell c) 0 ∗ resting c ∗ rowPts c (block m (peer c)) ∗ bufAny c ∗ ∃ r, prngReg c r)

/-- The table is staged whole and left alone; what is owed is owed before the point and paid after. -/
def dat (c : Dev nD) : Dat τ (Elt F) Unit ℕ UU ℕ cfg0 c where
  A w := V m c (Pipeline.arrRef spec0 w)
  after w _ := match w with
    | ⟨0, _⟩ => staged m c
  Φ t := if t.val = 0 then entering m c else leaving m c
  q _ := fullShare
  owed t := if t.val = 0 then due c else 0

abbrev adm : (p : Fin 1) → (pcfgs (F := F) p).Adm := fun p => (cfgs p).toPCfg_adm
/-- The proof data of the program's one kernel. -/
def pdats : (p : Fin 1) → (c : Dev nD) → Dat τ (Elt F) Unit ℕ UU ℕ (Pipeline.pin (pcfgs (F := F)) adm p) c
  | 0 => dat m

theorem owed_first (c : Dev nD) : (dat (F := F) m c).owed t0_0.castSucc = due c := by
  show (if (t0_0.castSucc : Fin (cfg0.N + 1)).val = 0 then due c else 0) = due c
  exact if_pos rfl
theorem owed_last (c : Dev nD) : (pdats (F := F) m 0 c).owed (Fin.last _) = 0 := by
  show (if (Fin.last cfg0.N).val = 0 then due c else 0) = 0
  rw [Fin.val_last, if_neg (by rw [show cfg0.N = 1 from N_0]; decide)]

theorem owed_zero (c : Dev nD) : (pdats (F := F) m 0 c).owed 0 = due c := by
  show (if (0 : Fin (cfg0.N + 1)).val = 0 then due c else 0) = due c
  exact if_pos rfl
theorem phi_zero (c : Dev nD) : (pdats (F := F) m 0 c).Φ 0 = entering m c := by
  show (if (0 : Fin (cfg0.N + 1)).val = 0 then entering m c else leaving m c) = _
  exact if_pos rfl

theorem phi_first (c : Dev nD) : (dat (F := F) m c).Φ t0_0.castSucc = entering m c := by
  show (if (t0_0.castSucc : Fin (cfg0.N + 1)).val = 0 then entering m c else leaving m c) = _
  exact if_pos rfl
theorem phi_last (c : Dev nD) : (dat (F := F) m c).Φ t0_0.succ = leaving m c := by
  show (if (t0_0.succ : Fin (cfg0.N + 1)).val = 0 then entering m c else leaving m c) = _
  exact if_neg (by decide)

/-- Owing a tally is owing it at a point whose tally it is. -/
theorem owes_in (c : Dev nD) (t : Fin (cfg0.N + 1)) (O : CellTallies nD τ sig Unit) (h : (dat (F := F) m c).owed t = O) (W : Waits sig Unit) :
    (owes (c : Thread nD τ) O W : sProp 𝕄) ⊢ ((dat m c).owesAt () t : sProp 𝕄) := by
  unfold Dat.owesAt Pipeline.owesWithin Dat.bound; rw [h]
  iintro HO; iexists W; isplitr; · ipureintro; exact fun _ _ => Or.inl trivial
  iexact HO
/-- And back. -/
theorem owes_out (c : Dev nD) (t : Fin (cfg0.N + 1)) (O : CellTallies nD τ sig Unit) (h : (dat (F := F) m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

theorem held_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

/-- The staging buffer of the table, holding `X`. -/
abbrev stage (c : Dev nD) (X : (cc0_stg0_0 : Ref sig .tc).ty.Contents (Elt F)) : sProp 𝕄 :=
  iprop(∃ f : Buf (Elt F) ((c : Thread nD τ).loc cc0_stg0_0), ⌜f = X⌝ ∗ whole c cc0_stg0_0 f)

set_option maxRecDepth 4000 in
/-- The body meets the pipeline's obligation. -/
theorem body_ok (hsw : Swapping m) (c : Dev nD) : BodyObligation (dat (F := F) m c) (defs₀ (F := F)) 𝒱₀ () Set.univ := fun t => by
  rw [fin_N0 t]
  rw [bigSep_W0, bigSep_W0]
  simp only [held_stage]
  show iprop((dat m c).Φ t0_0.castSucc ∗ (dat m c).owesAt () t0_0.castSucc ∗ (∃ d, stage c ((dat m c).before (0 : Fin 1) t0_0 d)))
    ⊢ wp frame (wpE (defs₀ (F := F)) 𝒱₀ c none) Set.univ
        (cc0_body (Memref.whole cc0_stg0_0) (Memref.isWhole_whole _) (Memref.whole main_v1) (Memref.isWhole_whole _)
          (Memref.whole main_v1) (Memref.isWhole_whole _) (Memref.whole cc0_scratch0) (Memref.isWhole_whole _) cc0_scratch1 cc0_scratch2 cc0_scratch3)
        (fun _ => iprop((dat m c).Φ t0_0.succ ∗ (dat m c).owesAt () t0_0.succ ∗ stage c (staged m c)))
  rw [phi_first, phi_last]
  unfold entering leaving
  iintro ⟨⟨⟨⟨%κ, Hg⟩, Hc, Hlev⟩, Hrow, Hbuf, Hreg⟩, HO, ⟨%d, %g, %hg, Htab⟩⟩
  have ht : g = staged m c := by rw [hg]; unfold Dat.before; rw [if_pos (fetch0_0 t0_0)]; rfl
  subst ht
  ihave HO' := (owes_out m c _ (due c) (owed_first m c)) $$ HO
  icases HO' with ⟨%W, HO⟩
  iapply (body_run m hsw κ c W _)
  isplitl [Hg Hc Hlev Hrow Hbuf Htab HO]
  · unfold before
    isplitl [Hg]; · iexact Hg
    isplitl [Hc]; · iexact Hc
    isplitl [Hlev]; · iexact Hlev
    isplitl [Hrow]; · iexact Hrow
    isplitl [Hbuf]; · iexact Hbuf
    isplitl [Htab] <;> iassumption
  unfold afterwards
  iintro ⟨Hb, Hs, Hrow, Hbuf, Htab, ⟨%W', HO⟩⟩
  isplitl [Hb Hs Hrow Hbuf Hreg]
  · isplitl [Hb]; · iexact Hb
    isplitl [Hs]; · iexact Hs
    isplitl [Hrow]; · iexact Hrow
    isplitl [Hbuf] <;> iassumption
  isplitl [HO]; · iapply (owes_in m c t0_0.succ 0 (owed_last m c) W'); iexact HO
  iexists _
  isplitr; · (ipureintro; rfl)
  iexact Htab

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the kernel. -/
def beside (c : Dev nD) : sProp 𝕄 := iprop(carried m c ∗ (∃ r, prngReg c r) ∗ ∃ W, owes (c : Thread nD τ) (due c) W)

theorem copy_sub : ∀ op ∈ (hostOps0 : List (HloOp τ sig (Elt F))), op.bufs ⊆ lasting := fun op h => by
  simp only [hostOps0, List.mem_singleton] at h; subst h
  show ({Proc.devRef .tc main_arg0, Proc.devRef .tc main_v1} : Finset (DevRef τ sig)) ⊆ lasting; decide
theorem copy_fresh : ∀ op ∈ (hostOps0 : List (HloOp τ sig (Elt F))), op.fresh = ∅ := List.forall_iff_forall_mem.mp hostOps0_fresh

/-- The copy of the input into the result buffer. -/
def seg0 : ℍ := Pipeline.HostSeg.ofOps _ _ _ _ _ lasting hostOps0 copy_sub copy_fresh (V₀ m) (beside m)

/-- What the kernel's invariant takes beside the buffers it addresses. -/
def entry (c : Dev nD) : sProp 𝕄 := iprop((∃ κ, opened m κ c) ∗ credits c ∗ levAts L lv)

theorem region_open (c : Dev nD) : iprop(carried m c ∗ Pipeline.ownSems0 own c ∗ levAts L lv) ⊢ (|={Set.univ}=> entry m c : sProp 𝕄) := by
  rw [resting_eq]
  unfold entry
  iintro ⟨Hg, Hs, Hlev⟩
  imod (open_own m c) $$ [Hg Hs] with ⟨Ho, Hc⟩
  · isplitl [Hg] <;> iassumption
  imodintro
  isplitl [Ho]; · iexact Ho
  isplitl [Hc] <;> iassumption

theorem scratch_only (c : Dev nD) :
    (Pipeline.scopedRest (Ix := Unit) (Name := ℕ) (U := UU) (Lvl := ℕ) (Val := Elt F) (Pipeline.pin (pcfgs (F := F)) adm 0).spec c : sProp 𝕄) = bufAny c :=
  scopedRest0_eq c

theorem region_in (c : Dev nD) :
    iprop(Pipeline.scopedRest (Pipeline.pin (pcfgs (F := F)) adm 0).spec c ∗ (∃ r, prngReg c r) ∗ StableHlo.held (c.tc : Thread nD τ) addressed (V₁ m c) ∗ entry m c)
      ⊢ (pdats m 0 c).Φ 0 := by
  rw [phi_zero, scratch_only, addressed_eq]
  unfold entering entry
  rw [rowPts_eq]
  iintro ⟨Hbuf, Hreg, Hrow, He⟩
  isplitl [He]; · iexact He
  isplitl [Hrow]; · iexact Hrow
  isplitl [Hbuf] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) addressed (V₂ m c)
        ∗ Pipeline.ownSems0 own c ∗ semVal (barCell c) 0) := by
  rw [show (pdats m 0 c).Φ (Fin.last _) = leaving m c from phi_last m c, scratch_only, addressed_eq, resting_eq, V₂_v1]
  unfold leaving
  rw [rowPts_eq]
  iintro ⟨Hb, Hs, Hrow, Hbuf, Hreg⟩
  isplitl [Hbuf]; · iexact Hbuf
  isplitl [Hreg]; · iexact Hreg
  isplitl [Hrow]; · iexact Hrow
  isplitl [Hs] <;> iassumption

/-- The staging waits come below everything owed. -/
theorem region_cut : Pipeline.LevelCutOwed (pcfgs (F := F)) adm (pdats m) () L lv 0 (fun _ => 0) where
  hι c w s := mem_L _ _
  hιb c w s := by
    have hw : w = 0 := Subsingleton.elim _ _
    subst hw
    exact le_of_eq (lv_dma c _ ((by decide : ∀ s, (spec0 0).sem s ≠ recvS) s))
  hD c t g i h := by
    rw [show (pdats (F := F) m 0 c).owed t = if t.val = 0 then due c else 0 from rfl] at h
    split at h
    · exact due_above h
    · exact absurd h (Nat.lt_irrefl 0)

set_option backward.isDefEq.respectTransparency.types false in
/-- The kernel as a segment: in with the debts, out with none. -/
def reg0 (hsw : Swapping m) : ℝ𝕊 0 :=
  Pipeline.RegionSeg.ofTalk (pcfgs (F := F)) adm (pdats m) () defs₀ 𝒱₀ L lv 0 own (by decide : Pipeline.OwnSemFacts spec0 own)
    addressed unstaged (by decide) launch0.toP rfl (fun c => (body_ok m hsw c).loose)
    (fun _ => 0) due (fun c => (owed_zero m c).trans (zero_add _).symm) (owed_last m) (fun _ => rfl)
    (fun c w => by unfold Dat.share; split <;> rfl)
    (V₁ m) (V₂ m) (fun c b hb => Function.update_of_ne (fun h => (Finset.mem_sdiff.mp hb).2 (Finset.mem_singleton.mpr h)) ..)
    (carried m) (fun c => semVal (barCell c) 0) (entry m) (fun c => semVal (barCell c) 0) (region_open m) (region_in m) (region_out m)
    (fun c => by iintro H; imodintro; iexact H)
    (fun _ => 0) (region_cut m) (fun _ => iprop(emp))
    (fun c w => by have hw : w = (0 : Fin 1) := Subsingleton.elim _ _
                   subst hw; rfl)
    (fun c w => by have hw : w = (0 : Fin 1) := Subsingleton.elim _ _
                   subst hw
                   exact ((dat (F := F) m c).arrAt_in (0 : Fin 1) rfl _).trans (V₂_arg1 m c).symm)

theorem region_pre (hsw : Swapping m) (c : Dev nD) : iprop(StableHlo.held (c : Thread nD τ) lasting (V₁ m c) ∗ beside m c) ⊢ (reg0 m hsw).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) unstaged (V₁ m c) ∗ emp) ∗ carried m c ∗ ∃ Wd, owes (c : Thread nD τ) (0 + due c) Wd)
  rw [table_eq, unstaged_eq, lasting_eq, zero_add]
  unfold beside
  iintro ⟨⟨H0, H1, Hv⟩, Hg, Hreg, HO⟩
  isplitl [H1]; · iexact H1
  isplitl [Hreg]; · iexact Hreg
  isplitl [H0 Hv]
  · isplitl [H0 Hv]
    · isplitl [H0] <;> iassumption
    iempintro
  isplitl [Hg] <;> iassumption

/-- What a device holds at the end. -/
abbrev Tₙ (c : Dev nD) : sProp 𝕄 := iprop(StableHlo.held (c : Thread nD τ) lasting (V₂ m c) ∗ semVal (barCell c) 0)
/-- What it holds at the start. -/
abbrev T₀ (c : Dev nD) : sProp 𝕄 := iprop(StableHlo.held (c : Thread nD τ) lasting (V₀ m c) ∗ beside m c)

theorem region_post (hsw : Swapping m) (c : Dev nD) : (reg0 m hsw).post c
    ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) unstaged (V₂ m c) ∗ emp) ∗ semVal (barCell c) 0 ∗ ∃ Wd, owes (c : Thread nD τ) (0 : CellTallies nD τ sig Unit) Wd) ⊢ _
  unfold Tₙ
  rw [table_eq, unstaged_eq, lasting_eq]
  iintro ⟨H1, -, ⟨⟨H0, Hv⟩, -⟩, Hb, HO⟩
  isplitr [HO]
  · isplitr [Hb]
    · isplitl [H0]; · iexact H0
      isplitl [H1] <;> iassumption
    iexact Hb
  iexact HO

/-- The program's two segments. -/
def segs (hsw : Swapping m) : List (Pipeline.Seg (pcfgs (F := F)) adm (pdats m) () defs₀ 𝒱₀ L lv) := [.host (seg0 m), .region (reg0 m hsw)]

/-! ## The launch -/

/-- Where the four payments of a device's cells go. -/
abbrev paid : Fin 4 → SemLoc sig := fun | 0 => .reg barS | 1 => .dma loadS | 2 => .dma sendS | 3 => .dma recvS
theorem paid_inj : Function.Injective paid := by decide
/-- One right to pay for every cell. -/
def allRights : Finset (GSem nD τ sig × ℕ × Unit) :=
  Finset.univ.map ⟨fun ck : Dev nD × Fin 4 => (((ck.1 : Thread nD τ), paid ck.2), 0, ()), fun _ _ h =>
    Prod.ext (congrArg (fun t : GSem nD τ sig × ℕ × Unit => t.1.1.1) h) (paid_inj (congrArg (fun t : GSem nD τ sig × ℕ × Unit => t.1.2) h))⟩

/-- The resources made at launch: the pipeline's, and the exchange's. -/
def u₀ : UU :=
  (initOf (Pipeline.cells (Pipeline.pin (pcfgs (F := F)) adm) cellOf_inj) (Pipeline.launchToks (Pipeline.pin (pcfgs (F := F)) adm) cellOf_inj),
    launchOf liveCells sleepCells allRights)

/-- A resource kept on the first device until all are shared out. -/
def kept (X : sProp 𝕄) (c : Dev nD) : sProp 𝕄 := if c = 0 then X else iprop(emp)
theorem kept_all (X : sProp 𝕄) : bigSep Finset.univ (kept X) = X := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-- The exchange's resources, kept on the first device. -/
def G : Dev nD → sProp 𝕄 := kept (BI.own (EX (launchOf liveCells sleepCells allRights)))

/-- The rights of the cells of device `c`. -/
def cellRights (c : Dev nD) : sProp 𝕄 :=
  iprop(dutyTok EX (barCell c) 0 () ∗ dutyTok EX (loadCell c) 0 () ∗ dutyTok EX (sendCell c) 0 () ∗ dutyTok EX (recvCell c) 0 ())

theorem allRights_eq : bigSep allRights (fun x => (dutyTok EX x.1 x.2.1 x.2.2 : sProp 𝕄)) = bigSep Finset.univ fun c : Dev nD => cellRights c := by
  unfold allRights; rw [bigSep_map, bigSep_univ_prod]
  exact bigSep_congr fun c _ => by unfold cellRights; rw [over_four]; rfl

/-- The rights of the cells, handed to the devices that pay there. -/
theorem rights_across : (bigSep Finset.univ fun c : Dev nD => (cellRights c : sProp 𝕄)) ⊢ bigSep Finset.univ fun c : Dev nD => rights c := by
  unfold cellRights rights
  rw [bigSep_sep', bigSep_sep', bigSep_sep', bigSep_sep', bigSep_sep', bigSep_sep', bigSep_univ_equiv across (fun c : Dev nD => (dutyTok EX (barCell c) 0 () : sProp 𝕄)),
    bigSep_univ_equiv across (fun c : Dev nD => (dutyTok EX (recvCell c) 0 () : sProp 𝕄))]
  exact BI.Entails.refl _

theorem recv_ne_bar : (SemLoc.dma recvS : SemLoc sig) ≠ .reg barS := fun h => by cases h

/-- Cells of different devices with one partner between them. -/
theorem across_iff {s : SemLoc sig} (d c : Dev nD) (h : (((c : Dev nD) : Thread nD τ), s) = ((peer d : Thread nD τ), s)) : d = peer c := by
  have h1 : c = peer d := congrArg (fun g : GSem nD τ sig => g.1.1) h
  rw [h1, peer_peer]

theorem due_bar (d c : Dev nD) : due d (barCell c) () = if d = peer c then 1 else 0 := by
  unfold due
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun h' => h (across_iff d c h'.1)), if_neg h]

theorem due_recv (d c : Dev nD) : due d (recvCell c) () = if d = peer c then N else 0 := by
  unfold due
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun h' => h (across_iff d c h'.1)), if_neg h]

theorem launch_bar (c : Dev nD) :
    tallyOn (barCell c) (launchCredit (Pipeline.owing due) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => due_bar d c, Finset.sum_ite_eq' Finset.univ (peer c) fun _ => 1,
    if_pos (Finset.mem_univ _)]

theorem launch_recv (c : Dev nD) :
    tallyOn (recvCell c) (launchCredit (Pipeline.owing due) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => due_recv d c, Finset.sum_ite_eq' Finset.univ (peer c) fun _ => N,
    if_pos (Finset.mem_univ _)]

/-- What others owe a device at launch is the credit it waits with. -/
theorem launch_credits (c : Dev nD) : (Pipeline.launchCred due c : sProp 𝕄) ⊢ credits c := by
  unfold Pipeline.launchCred credits
  rw [bigSep_univ_at _ (SemLoc.reg barS), launch_bar]
  refine sep_mono_right ?_
  rw [← launch_recv]
  exact bigSep_elim (Finset.mem_erase.mpr ⟨recv_ne_bar, Finset.mem_univ _⟩)

/-- A device's share of the exchange's resources. -/
def part (c : Dev nD) : sProp 𝕄 :=
  iprop(atPos EX (barCell c) 0 ∅ 0 ∗ (openTok EX (loadCell c) ∗ openTok EX (sendCell c) ∗ openTok EX (recvCell c)) ∗ rights c)

/-- The rest of what it holds at launch. -/
def rest (c : Dev nD) : sProp 𝕄 :=
  iprop(StableHlo.held (c : Thread nD τ) lasting (V₀ m c) ∗ credits c ∗ owes (c : Thread nD τ) (due c) ∅ ∗ ∃ r, prngReg c r)

theorem start_of (κ : GSem nD τ sig → ℕ) (c : Dev nD) : iprop(books m κ ∗ (part c ∗ rest m c)) ⊢ T₀ m c := by
  unfold rest T₀ beside carried part
  iintro ⟨#HB, ⟨Hat, Ho, Hr⟩, Hh, Hc, HO, Hreg⟩
  isplitl [Hh]; · iexact Hh
  isplitl [Hat Ho Hr Hc]
  · isplitr [Hc]
    · iexists κ
      isplitr; · iexact HB
      isplitl [Hat]; · iexact Hat
      isplitl [Ho] <;> iassumption
    iexact Hc
  isplitl [Hreg]; · iexact Hreg
  iexists ∅; iexact HO

/-- From the launch to every device's start. -/
theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (due c) ∅ ∗ Pipeline.launchCred due c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) lasting (V₀ m c) from lasting_held c (V₀ m c), bar_only]
    unfold rest
    iintro ⟨Hh, Hus, HO, Hcr, Hp, HG⟩
    ihave Hc := (launch_credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep liveCells (fun g => (semVal g 0 : sProp 𝕄)) :=
    Entails.of_eq (bigSep_map (s := Finset.univ) barEmb (Φ := fun g : GSem nD τ sig => (semVal g 0 : sProp 𝕄))).symm
  have hat : bigSep liveCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep sleepCells (fun g => (openTok EX g : sProp 𝕄))
      ⊢ bigSep Finset.univ (fun c : Dev nD => iprop(openTok EX (loadCell c) ∗ openTok EX (sendCell c) ∗ openTok EX (recvCell c))) :=
    Entails.of_eq (by
      rw [bigSep_map, bigSep_univ_prod]
      exact bigSep_congr fun c _ => by rw [over_three]; rfl)
  iintro ⟨H, -⟩
  ihave H' := (show (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c))
      ⊢ (bigSep Finset.univ fun c : Dev nD => iprop(rest m c ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (EX (launchOf liveCells sleepCells allRights)) from
    Entails.of_eq (kept_all (F := F) (BI.own (EX (launchOf liveCells sleepCells allRights))))) $$ HG
  imod (Rounds.fund_launch EX (plan m) cells_disjoint (fun g _ h => h) allRights) $$ [Hv Hu] with ⟨%κ, -, #Hinv, #Hr, Hat, Hopen, Htok⟩
  · isplitl [Hv]
    · iapply hv $$ Hv
    · iexact Hu
  imodintro
  iapply (bigSep_with_persistent (R := books m κ) (Φ := fun c => iprop(part c ∗ rest m c)) fun c _ => start_of m κ c)
  isplitr
  · unfold books
    isplitr; · iexact Hinv
    iexact Hr
  iapply bigSep_pair
  isplitr [HB]
  · unfold part
    iapply bigSep_pair; isplitl [Hat]; · iapply hat $$ Hat
    iapply bigSep_pair; isplitl [Hopen]; · iapply hopen $$ Hopen
    iapply (rights_across (F := F))
    iapply (Entails.of_eq (allRights_eq (F := F))) $$ Htok
  · iexact HB

theorem bar_alone : ∀ sm : SemLoc sig, sm.isScoped .tc = false → sm = .reg barS := by decide

set_option backward.isDefEq.respectTransparency.types false in
/-- From any memory whose tables are all `[1, 0]`, with every counter at zero, every weakly fair execution on the mesh
    terminates; at the end every device's arguments are as they were, its result is its partner's input, and every
    counter is at zero. -/
theorem run_main (hsw : Swapping m) : θ_run defs (onTc (τ := τ) (main (F := F))) ⟨m, fun _ => 0, ρ⟩
    (fun r => (∀ c : Dev nD, r.2.mem ((c : Thread nD τ).loc main_v1) = m ((peer c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m hsw)
    (fun c Q => by rw [main_segs adm (pdats m) () 𝒱₀ L lv (seg0 m) (reg0 m hsw) rfl c]; exact BI.Entails.refl _)
    (by simp only [segs, Pipeline.Seg.pipes_host, Pipeline.Seg.pipes_region, Pipeline.Seg.pipes_nil]; decide)
    (O₀ := due) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [kept_all]; iexact HX)
    (T₀ := T₀ m) (Tₙ := Tₙ m)
    (hch := ⟨fun c => .rfl, fun c => region_pre m hsw c, fun c => region_post m hsw c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v1).view.loc (c : Thread nD τ)) = V₂ m c main_v1)
      ∧ s.sem (barCell c) = 0)
    (hfin := fun c s' => by
      dsimp only [Tₙ]; rw [lasting_eq]
      iintro ⟨⟨⟨H0, H1, Hv⟩, Hb⟩, HSI⟩
      icombine HSI H0 gives %h0
      icombine HSI H1 gives %h1
      icombine HSI Hv gives %hv
      icombine HSI Hb gives %hb
      imodintro
      isplitr
      · ipureintro
        exact ⟨⟨Buf.eq_of_forall_mem_univ h0, Buf.eq_of_forall_mem_univ h1, Buf.eq_of_forall_mem_univ hv⟩, by simpa using hb⟩
      iexact HSI)
    (hQ := fun s h hs => ⟨fun c => by
        obtain ⟨⟨h0, h1, hv⟩, -⟩ := h c
        exact ⟨hv.trans ((V₂_v1 m c).trans (block_eq m (peer c))), h0.trans ((V₂_arg0 m c).trans (V_main_arg0 m c)),
          h1.trans ((V₂_arg1 m c).trans (V_main_arg1 m c))⟩,
      sem_eq_zero hs fun c sm hsm => by
        obtain rfl := bar_alone sm hsm
        exact (h c).2⟩)

end Cert.Exchange

end
-- ==== Proof.Stay.lean ====
/-
  The program on the mesh when every device's table is `[0, 1]`: each device reads its own coordinate, takes no branch,
  and its result is the copy of its input made before the kernel. Nothing is signalled, sent or owed.
-/
module

public import proofs.«01_k».proof.Proof.ExchangeRun

@[expose] public section

noncomputable section

namespace Cert.Stay

open Cert.KernelIdeal Cert.KernelIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The table -/

/-- On every device the table is `[0, 1]`. -/
def Staying : Prop := ∀ c : Dev nD,
  (m ((c : Thread nD τ).loc main_arg1) : IVec S2 32) (place 0) = 0#32
    ∧ (m ((c : Thread nD τ).loc main_arg1) : IVec S2 32) (place 1) = 1#32

/-- The device's own middle coordinate, as a word. -/
def home (c : Dev nD) : BitVec 32 := BitVec.ofNat 32 (c.val / 4 % 2)

/-- At its own coordinate a device does not take the branch. -/
theorem home_cond : ∀ c : Dev nD, ¬ k0_cond1 c (home c) = 1#1 := by decide +kernel
/-- So it names no other device. -/
theorem home_chk (c : Dev nD) : k0_chk1 c (home c) := ⟨fun h => absurd h (home_cond c), fun h => absurd h (home_cond c)⟩

variable {m} in
/-- Under the staying table, the word a device reads is its own coordinate. -/
theorem Staying.word (h : Staying m) (c : Dev nD) : wordOf c (staged m c) = home c := by
  rw [wordOf_staged]
  unfold home
  have h2 : c.val / 4 % 2 < 2 := Nat.mod_lt _ (by decide)
  rcases Nat.lt_succ_iff_lt_or_eq.mp h2 with h0 | h1
  · have e : c.val / 4 % 2 = 0 := by omega
    rw [show (⟨c.val / 4 % 2, h2⟩ : Fin 2) = 0 from Fin.ext e, (h c).1, e]
  · rw [show (⟨c.val / 4 % 2, h2⟩ : Fin 2) = 1 from Fin.ext h1, (h c).2, h1]

/-! ## The kernel -/

/-- What the kernel holds of its own at either end of its one point: its counters at zero, its result and scratch buffers. -/
def idle (c : Dev nD) : sProp 𝕄 :=
  iprop(semVal (barCell c) 0 ∗ resting c ∗ rowPts c (block m c) ∗ bufAny c ∗ ∃ r, prngReg c r)

/-- The table is staged whole and left alone, and nothing is ever owed. -/
def still (c : Dev nD) : Dat τ (Elt F) Unit ℕ UU ℕ cfg0 c where
  A w := V m c (Pipeline.arrRef spec0 w)
  after w _ := match w with
    | ⟨0, _⟩ => staged m c
  Φ _ := idle m c
  q _ := fullShare
  owed _ := 0

/-- The proof data of the program's one kernel. -/
def sdats : (p : Fin 1) → (c : Dev nD) → Dat τ (Elt F) Unit ℕ UU ℕ (Pipeline.pin (pcfgs (F := F)) adm p) c
  | 0 => still m

set_option maxRecDepth 4000 in
/-- The body reads its word and returns. -/
theorem still_ok (hst : Staying m) (c : Dev nD) : BodyObligation (still (F := F) m c) (defs₀ (F := F)) 𝒱₀ () Set.univ := fun t => by
  have hword : wordOf c (staged m c) = home c := hst.word c
  have hchk : k0_chk1 c (wordOf c (staged m c)) := by rw [hword]; exact home_chk c
  have hcond : ¬ k0_cond1 c (wordOf c (staged m c)) = 1#1 := by rw [hword]; exact home_cond c
  rw [fin_N0 t]
  rw [bigSep_W0, bigSep_W0]
  simp only [held_stage]
  show iprop(idle m c ∗ (still m c).owesAt () t0_0.castSucc ∗ (∃ d, stage c ((still m c).before (0 : Fin 1) t0_0 d)))
    ⊢ wp frame (wpE (defs₀ (F := F)) 𝒱₀ c none) Set.univ
        (cc0_body (Memref.whole cc0_stg0_0) (Memref.isWhole_whole _) (Memref.whole main_v1) (Memref.isWhole_whole _)
          (Memref.whole main_v1) (Memref.isWhole_whole _) (Memref.whole cc0_scratch0) (Memref.isWhole_whole _) cc0_scratch1 cc0_scratch2 cc0_scratch3)
        (fun _ => iprop(idle m c ∗ (still m c).owesAt () t0_0.castSucc ∗ stage c (staged m c)))
  simp only [cc0_body_eq_skeleton]; unfold cc0_body_skel
  simp only [smemLoad, smemLoadElt, Prog.lift, Prog.bind_op, Prog.bind_ret, Prog.pure_eq_ret, Prog.bind_assoc, wp_deviceId]
  iintro ⟨Hi, HO, ⟨%d, %g, %hg, Htab⟩⟩
  have ht : g = staged m c := by rw [hg]; unfold Dat.before; rw [if_pos (fetch0_0 t0_0)]; rfl
  subst ht
  iapply (wp_load_rect 𝒱₀ (c : Thread nD τ) none Set.univ (m := (Memref.whole cc0_stg0_0)) (r := readAt c) (Finset.subset_univ _)) $$ Htab; iintro Htab
  simp only [wp_assume_of _ _ _ _ (d := k0_chk1.dec _ _) hchk]
  simp only [dif_neg hcond, Prog.bind_op, Prog.bind_ret, Prog.pure_eq_ret, Prog.bind_assoc]
  iapply (le_wp_ret _ _ _ _ _)
  isplitl [Hi]; · iexact Hi
  isplitl [HO]; · iexact HO
  iexists _
  isplitr; · (ipureintro; rfl)
  iexact Htab

/-! ## The two segments -/

local notation "ℍ" => Pipeline.HostSeg (Name := ℕ) (U := UU) (pcfgs (F := F)) defs₀ 𝒱₀ L lv
local notation "ℝ𝕊" => Pipeline.RegionSeg (pcfgs (F := F)) adm (sdats m) () defs₀ 𝒱₀ L lv

/-- What rides beside the buffers up to the kernel: the barrier's counter, and no debt. -/
def spare (c : Dev nD) : sProp 𝕄 :=
  iprop(semVal (barCell c) 0 ∗ (∃ r, prngReg c r) ∗ ∃ W, owes (c : Thread nD τ) (0 : CellTallies nD τ sig Unit) W)

/-- The copy of the input into the result buffer. -/
def copy : ℍ := Pipeline.HostSeg.ofOps _ _ _ _ _ lasting hostOps0 copy_sub copy_fresh (V₀ m) spare

theorem idle_in (c : Dev nD) :
    iprop(Pipeline.scopedRest (Pipeline.pin (pcfgs (F := F)) adm 0).spec c ∗ (∃ r, prngReg c r) ∗ StableHlo.held (c.tc : Thread nD τ) addressed (V₁ m c)
        ∗ (semVal (barCell c) 0 ∗ resting c))
      ⊢ (sdats m 0 c).Φ 0 := by
  show _ ⊢ idle m c
  rw [scratch_only, addressed_eq]
  unfold idle
  rw [rowPts_eq]
  iintro ⟨Hbuf, Hreg, Hrow, Hb, Hs⟩
  isplitl [Hb]; · iexact Hb
  isplitl [Hs]; · iexact Hs
  isplitl [Hrow]; · iexact Hrow
  isplitl [Hbuf] <;> iassumption

theorem idle_out (c : Dev nD) : (sdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) addressed (V₁ m c)
        ∗ Pipeline.ownSems0 own c ∗ semVal (barCell c) 0) := by
  show idle m c ⊢ _
  rw [scratch_only, addressed_eq, resting_eq]
  unfold idle
  rw [rowPts_eq]
  iintro ⟨Hb, Hs, Hrow, Hbuf, Hreg⟩
  isplitl [Hbuf]; · iexact Hbuf
  isplitl [Hreg]; · iexact Hreg
  isplitl [Hrow]; · iexact Hrow
  isplitl [Hs] <;> iassumption

/-- The staging waits owe nothing. -/
theorem idle_cut : Pipeline.LevelCutOwed (pcfgs (F := F)) adm (sdats m) () L lv 0 (fun _ => 0) where
  hι c w s := mem_L _ _
  hιb c w s := by
    have hw : w = 0 := Subsingleton.elim _ _
    subst hw
    exact le_of_eq (lv_dma c _ ((by decide : ∀ s, (spec0 0).sem s ≠ recvS) s))
  hD c t g i h := absurd h (Nat.lt_irrefl 0)

set_option backward.isDefEq.respectTransparency.types false in
/-- The kernel as a segment: every buffer out as it came in. -/
def stillReg (hst : Staying m) : ℝ𝕊 0 :=
  Pipeline.RegionSeg.ofTalk (pcfgs (F := F)) adm (sdats m) () defs₀ 𝒱₀ L lv 0 own (by decide : Pipeline.OwnSemFacts spec0 own)
    addressed unstaged (by decide) launch0.toP rfl (fun c => (still_ok m hst c).loose)
    (fun _ => 0) (fun _ => 0) (fun c => (zero_add _).symm) (fun _ => rfl) (fun _ => rfl)
    (fun c w => by unfold Dat.share; split <;> rfl)
    (V₁ m) (V₁ m) (fun c b hb => rfl)
    (fun c => semVal (barCell c) 0) (fun c => semVal (barCell c) 0) (fun c => iprop(semVal (barCell c) 0 ∗ resting c)) (fun c => semVal (barCell c) 0)
    (fun c => by
      rw [resting_eq]
      iintro ⟨Hb, Hs, -⟩
      imodintro
      isplitl [Hb] <;> iassumption)
    (idle_in m) (idle_out m)
    (fun c => by iintro H; imodintro; iexact H)
    (fun _ => 0) (idle_cut m) (fun _ => iprop(emp))
    (fun c w => by have hw : w = (0 : Fin 1) := Subsingleton.elim _ _
                   subst hw; rfl)
    (fun c w => by have hw : w = (0 : Fin 1) := Subsingleton.elim _ _
                   subst hw
                   exact (still (F := F) m c).arrAt_in (0 : Fin 1) rfl _)

theorem still_pre (hst : Staying m) (c : Dev nD) : iprop(StableHlo.held (c : Thread nD τ) lasting (V₁ m c) ∗ spare c) ⊢ (stillReg m hst).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) unstaged (V₁ m c) ∗ emp) ∗ semVal (barCell c) 0 ∗ ∃ Wd, owes (c : Thread nD τ) (0 + 0) Wd)
  rw [table_eq, unstaged_eq, lasting_eq, zero_add]
  unfold spare
  iintro ⟨⟨H0, H1, Hv⟩, Hb, Hreg, HO⟩
  isplitl [H1]; · iexact H1
  isplitl [Hreg]; · iexact Hreg
  isplitl [H0 Hv]
  · isplitl [H0 Hv]
    · isplitl [H0] <;> iassumption
    iempintro
  isplitl [Hb] <;> iassumption

/-- What a device holds at the end. -/
abbrev Sₙ (c : Dev nD) : sProp 𝕄 := iprop(StableHlo.held (c : Thread nD τ) lasting (V₁ m c) ∗ semVal (barCell c) 0)
/-- What it holds at the start. -/
abbrev S₀ (c : Dev nD) : sProp 𝕄 := iprop(StableHlo.held (c : Thread nD τ) lasting (V₀ m c) ∗ spare c)

theorem still_post (hst : Staying m) (c : Dev nD) : (stillReg m hst).post c
    ⊢ iprop(Sₙ m c ∗ ∃ W, owes (c : Thread nD τ) (0 : CellTallies nD τ sig Unit) W) := by
  show iprop(StableHlo.held (c.tc : Thread nD τ) (Pipeline.arrRefs (τ := τ) (pcfgs (F := F) 0).spec) (V₁ m c) ∗ (∃ r, prngReg c r)
    ∗ (StableHlo.held (c.tc : Thread nD τ) unstaged (V₁ m c) ∗ emp) ∗ semVal (barCell c) 0 ∗ ∃ Wd, owes (c : Thread nD τ) (0 : CellTallies nD τ sig Unit) Wd) ⊢ _
  unfold Sₙ
  rw [table_eq, unstaged_eq, lasting_eq]
  iintro ⟨H1, -, ⟨⟨H0, Hv⟩, -⟩, Hb, HO⟩
  isplitr [HO]
  · isplitr [Hb]
    · isplitl [H0]; · iexact H0
      isplitl [H1] <;> iassumption
    iexact Hb
  iexact HO

/-- The program's two segments. -/
def pieces (hst : Staying m) : List (Pipeline.Seg (pcfgs (F := F)) adm (sdats m) () defs₀ 𝒱₀ L lv) := [.host (copy m), .region (stillReg m hst)]

/-- From the launch to every device's start. -/
theorem starting :
    iprop((bigSep Finset.univ fun c : Dev nD => iprop(unscopedBufs c (fun b => m ((c : Thread nD τ).loc b)) ∗ unscopedSems0 c
          ∗ owes (c : Thread nD τ) (0 : CellTallies nD τ sig Unit) ∅ ∗ Pipeline.launchCred (fun _ => 0) c ∗ prngReg c (ρ c) ∗ (emp : sProp 𝕄))) ∗ levAts L lv)
      ⊢ (|={Set.univ}=> bigSep Finset.univ (S₀ m) : sProp 𝕄) := by
  have hone (c : Dev nD) : iprop(unscopedBufs c (fun b => m ((c : Thread nD τ).loc b)) ∗ unscopedSems0 c
        ∗ owes (c : Thread nD τ) (0 : CellTallies nD τ sig Unit) ∅ ∗ Pipeline.launchCred (fun _ => 0) c ∗ prngReg c (ρ c) ∗ (emp : sProp 𝕄)) ⊢ S₀ m c := by
    rw [show unscopedBufs c (fun b => m ((c : Thread nD τ).loc b)) = StableHlo.held (c : Thread nD τ) lasting (V₀ m c) from lasting_held c (V₀ m c), bar_only]
    unfold S₀ spare
    iintro ⟨Hh, Hb, HO, -, Hp, -⟩
    isplitl [Hh]; · iexact Hh
    isplitl [Hb]; · iexact Hb
    isplitl [Hp]; · iexists (ρ c); iexact Hp
    iexists ∅; iexact HO
  iintro ⟨H, -⟩
  imodintro
  iapply (show _ ⊢ bigSep Finset.univ (S₀ m) from bigSep_mono fun c _ => hone c) $$ H

set_option backward.isDefEq.respectTransparency.types false in
/-- From any memory whose tables are all `[0, 1]`, with every counter at zero, every weakly fair execution on the mesh
    terminates; at the end every device's arguments are as they were, its result is its own input, and every counter is
    at zero. -/
theorem run_main (hst : Staying m) : θ_run defs (onTc (τ := τ) (main (F := F))) ⟨m, fun _ => 0, ρ⟩
    (fun r => (∀ c : Dev nD, r.2.mem ((c : Thread nD τ).loc main_v1) = m ((c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (sdats m) () cellOf_inj EP defs₀ 𝒱₀ L lv m ρ main (pieces m hst)
    (fun c Q => by rw [main_segs adm (sdats m) () 𝒱₀ L lv (copy m) (stillReg m hst) rfl c]; exact BI.Entails.refl _)
    (by simp only [pieces, Pipeline.Seg.pipes_host, Pipeline.Seg.pipes_region, Pipeline.Seg.pipes_nil]; decide)
    (O₀ := fun _ => 0) (hL := L_of_ne) (G := fun _ => (BI.emp : sProp 𝕄)) (u₀ := u₀)
    (hu₀ := by
      unfold u₀
      iintro Hu
      ihave H := (ownU_pair _ _) $$ Hu
      icases H with ⟨HP, -⟩
      imodintro
      isplitl [HP]; · iexact HP
      rw [show (bigSep Finset.univ fun _ : Dev nD => (BI.emp : sProp 𝕄)) = BI.emp from BI.bigSep_emp_const _]; iempintro)
    (T₀ := S₀ m) (Tₙ := Sₙ m)
    (hch := ⟨fun c => .rfl, fun c => still_pre m hst c, fun c => still_post m hst c⟩)
    (hinit := starting m ρ)
    (QY := fun c s => (s.mem ((Memref.whole main_arg0).view.loc (c : Thread nD τ)) = V₁ m c main_arg0
        ∧ s.mem ((Memref.whole main_arg1).view.loc (c : Thread nD τ)) = V₁ m c main_arg1
        ∧ s.mem ((Memref.whole main_v1).view.loc (c : Thread nD τ)) = V₁ m c main_v1)
      ∧ s.sem (barCell c) = 0)
    (hfin := fun c s' => by
      dsimp only [Sₙ]; rw [lasting_eq]
      iintro ⟨⟨⟨H0, H1, Hv⟩, Hb⟩, HSI⟩
      icombine HSI H0 gives %h0
      icombine HSI H1 gives %h1
      icombine HSI Hv gives %hv
      icombine HSI Hb gives %hb
      imodintro
      isplitr
      · ipureintro
        exact ⟨⟨Buf.eq_of_forall_mem_univ h0, Buf.eq_of_forall_mem_univ h1, Buf.eq_of_forall_mem_univ hv⟩, by simpa using hb⟩
      iexact HSI)
    (hQ := fun s h hs => ⟨fun c => by
        obtain ⟨⟨h0, h1, hv⟩, -⟩ := h c
        exact ⟨hv.trans (block_eq m c), h0.trans (V_main_arg0 m c), h1.trans (V_main_arg1 m c)⟩,
      sem_eq_zero hs fun c sm hsm => by
        obtain rfl := bar_alone sm hsm
        exact (h c).2⟩)

end Cert.Stay

end
-- ==== Proof.Gathered.lean ====
/-
  The reference under the table `[1, 0]`: its result is the argument with its two halves exchanged, and a device's
  block of that is its partner's block of the argument. Under the table `[0, 1]` its result is the argument.
-/
module

public import proofs.«01_k».proof.Proof.Stay
public import proofs.«01_k».proof.Proof.Gen.ReferenceIdeal.Run
public import proofs.«01_k».proof.Proof.Gen.Pre_swaps_Kernel
public import proofs.«01_k».proof.Proof.Gen.Pre_stays_Kernel
public import Idealize.ShloMosaic.Lib.Layout
public import Idealize.ShloMosaic.Lib.Quiescent
public import Idealize.ShloMosaic.PureOps.Ideal

@[expose] public section

noncomputable section

namespace Cert.Gathered

open Cert.ReferenceIdeal Cert.ReferenceIdeal.Gen
open Idealize.ShloMosaic Idealize.ShloMosaic.TcCoe Idealize.SL.Sem

/-! ## The table -/

/-- The table that exchanges the two halves. -/
def flipped : IVec S2 32 := fun i => (![1#32, 0#32] : Fin 2 → BitVec 32) (i 0)

/-- The table that leaves them. -/
def kept : IVec S2 32 := fun i => (![0#32, 1#32] : Fin 2 → BitVec 32) (i 0)

/-- Two tables with the same two words are one table. -/
theorem table_ext (T U : IVec S2 32) (h0 : T (Exchange.place 0) = U (Exchange.place 0)) (h1 : T (Exchange.place 1) = U (Exchange.place 1)) : T = U := by
  funext i
  have hi : i = Exchange.place (i 0) := by
    funext a; fin_cases a; rfl
  rw [hi]
  generalize (i 0) = k at *
  match k with
  | ⟨0, _⟩ => exact h0
  | ⟨1, _⟩ => exact h1

/-- A table holding one and then zero exchanges. -/
theorem eq_flipped (T : IVec S2 32) (h0 : T (Exchange.place 0) = 1#32) (h1 : T (Exchange.place 1) = 0#32) : T = flipped := table_ext _ _ h0 h1
/-- A table holding zero and then one leaves. -/
theorem eq_kept (T : IVec S2 32) (h0 : T (Exchange.place 0) = 0#32) (h1 : T (Exchange.place 1) = 1#32) : T = kept := table_ext _ _ h0 h1

/-- The positions that sort a table: what the reference gathers by, before wrapping. -/
def order (T : IVec S2 32) : IVec S2 32 := (Host.sort2 S2 0 comparator_i32_i32_d0 T (iotaInDim S2 32 0)).2

/-- The order with its negative entries wrapped, one row of start indices per half. -/
def starts (T : IVec S2 32) : IVec S2x1 32 :=
  broadcastInDim S2x1 ![0] bcast_S2_S2x1_0 (select (cmpi .slt (order T) (broadcastInDim S2 ![] bcast_S_S2 (constantI S_ 32 0#32)))
    (addi (order T) (broadcastInDim S2 ![] bcast_S_S2 (constantI S_ 32 2#32))) (order T))

/-- The exchanging table is its own order. -/
theorem order_flipped : order flipped = flipped := by unfold order; decide +kernel

/-- So half `k` starts at half `1 - k`. -/
theorem starts_flipped (i : S2x1.Idx) : starts flipped i = (![1#32, 0#32] : Fin 2 → BitVec 32) (i 0) := by
  unfold starts; rw [order_flipped]; revert i; decide +kernel

/-- The leaving table is its own order too, -/
theorem order_kept : order kept = kept := by unfold order; decide +kernel

/-- and half `k` starts at half `k`. -/
theorem starts_kept (i : S2x1.Idx) : starts kept i = (![0#32, 1#32] : Fin 2 → BitVec 32) (i 0) := by
  unfold starts; rw [order_kept]; revert i; decide +kernel

/-! ## The gather -/

local notation "γ" => gather_S2x512x512_S2x1_S2x512x512_12_0_n_n_0_1_1512512

/-- The element the exchanged array holds at an index is the argument's in the other half. -/
def other (j : S2x512x512.Idx) : S2x512x512.Idx := fun a =>
  if h : a = 0 then ⟨1 - (j 0).val, by subst h; show _ < 2; omega⟩ else j a

theorem row_of_start (j : S2x512x512.Idx) (h : (0 : Fin 3) ∈ (γ).startIndexMap) :
    (((γ).siIdx j ⟨(γ).startIndexMap.idxOf 0, List.idxOf_lt_length_iff.2 h⟩) 0).val = (j 0).val := rfl

/-- The row the gather reads for `j` is the one its start index names; -/
theorem operandIdx_row (j : S2x512x512.Idx) (v : IVec S2x1 32) (w : Fin 2 → BitVec 32) (hv : ∀ i : S2x1.Idx, v i = w (i 0)) :
    ((γ).operandIdx j v 0).val = min (w (j 0)).toInt.toNat 1 := by
  have hm : (0 : Fin 3) ∈ (γ).startIndexMap := List.mem_singleton.2 rfl
  have hk : (0 : Fin 3) ∉ (γ).sKept := by decide
  show (γ).start j v 0 + (γ).batchCoord j 0 + (γ).offCoord j 0 = _
  rw [(γ).batchCoord_eq_zero j 0 List.not_mem_nil, (γ).offCoord_eq_zero j 0 hk]
  unfold GatherDims.start
  rw [dif_pos hm, hv, show ((γ).siIdx j ⟨(γ).startIndexMap.idxOf 0, List.idxOf_lt_length_iff.2 hm⟩) 0 = j 0 from Fin.ext (row_of_start j hm)]
  rfl

/-- along the other axes it reads `j` itself. -/
theorem operandIdx_rest (j : S2x512x512.Idx) (v : IVec S2x1 32) (a : Fin 3) (ha : a ≠ 0) : ((γ).operandIdx j v a).val = (j a).val := by
  have hm : ∀ a : Fin 3, a ≠ 0 → a ∉ (γ).startIndexMap := by decide
  have hk : ∀ a : Fin 3, a ≠ 0 → a ∈ (γ).sKept := by decide
  show (γ).start j v a + (γ).batchCoord j a + (γ).offCoord j a = _
  rw [(γ).batchCoord_eq_zero j a List.not_mem_nil]
  unfold GatherDims.start GatherDims.offCoord
  rw [dif_neg (hm a ha), dif_pos (hk a ha), Nat.zero_add]
  match a, ha with
  | ⟨1, _⟩, _ => rfl
  | ⟨2, _⟩, _ => rfl

/-- Under the exchanging table the gather reads the other half. -/
theorem operandIdx_flipped (j : S2x512x512.Idx) : (γ).operandIdx j (starts flipped) = other j := by
  funext a
  refine Fin.ext ?_
  by_cases ha : a = (0 : Fin 3)
  · subst ha
    refine (operandIdx_row j _ _ starts_flipped).trans ?_
    show _ = 1 - (j 0).val
    generalize j 0 = k
    revert k
    decide
  · refine (operandIdx_rest j _ a ha).trans ?_
    unfold other
    rw [dif_neg ha]

/-- Under the leaving table it reads the same half. -/
theorem operandIdx_kept (j : S2x512x512.Idx) : (γ).operandIdx j (starts kept) = j := by
  funext a
  refine Fin.ext ?_
  by_cases ha : a = (0 : Fin 3)
  · subst ha
    refine (operandIdx_row j _ _ starts_kept).trans ?_
    generalize j 0 = k
    revert k
    decide
  · exact operandIdx_rest j _ a ha

/-- The reference's result on whole arrays. -/
def result (x : FVec Ideal S2x512x512 .bf16) (T : IVec S2 32) : FVec Ideal S2x512x512 .bf16 :=
  truncf .bf16 (extf .f32 (Host.gather γ x (starts T)) bitsLt_bf16_f32) bitsLt_bf16_f32

/-- Under the exchanging table it is the argument with its halves exchanged: over the reals the casts change nothing. -/
theorem result_flipped (x : FVec Ideal S2x512x512 .bf16) : result x flipped = fun j => x (other j) := by
  funext j
  show x ((γ).operandIdx j (starts flipped)) = x (other j)
  rw [operandIdx_flipped]

/-- Under the leaving table it is the argument. -/
theorem result_kept (x : FVec Ideal S2x512x512 .bf16) : result x kept = x := by
  funext j
  show x ((γ).operandIdx j (starts kept)) = x j
  rw [operandIdx_kept]

/-! ## A device's block -/

/-- Where device `c`'s block lies along the first axis: its middle coordinate. -/
theorem block_row : ∀ c : Dev Cert.KernelIdeal.nD, (Layout.meshBlock (r := 3) [2, 2, 4] ![[1], [], []] c (h := by decide) 0).val = c.val / 4 % 2 := by decide

/-- The block of the exchanged array at device `c` is the block of the array at its partner. -/
theorem block_other (c : Dev Cert.KernelIdeal.nD) (x : FVec Ideal S2x512x512 .bf16) :
    Layout.blockN ⟨3, ![1, 512, 512]⟩ ⟨3, ![2, 512, 512]⟩ (Layout.meshBlock [2, 2, 4] ![[1], [], []] c) (fun j => x (other j))
      = Layout.blockN ⟨3, ![1, 512, 512]⟩ ⟨3, ![2, 512, 512]⟩ (Layout.meshBlock [2, 2, 4] ![[1], [], []] (Exchange.peer c)) x := by
  funext i
  rw [Layout.blockN_apply, Layout.blockN_apply]
  refine congrArg x (funext fun a => Fin.ext ?_)
  have hi : (i 0).val = 0 := Nat.lt_one_iff.mp (i 0).isLt
  match a with
  | ⟨0, _⟩ =>
    show 1 - ((Layout.meshBlock (r := 3) [2, 2, 4] ![[1], [], []] c (h := by decide) 0).val * 1 + (i 0).val)
      = (Layout.meshBlock (r := 3) [2, 2, 4] ![[1], [], []] (Exchange.peer c) (h := by decide) 0).val * 1 + (i 0).val
    rw [hi]; revert c; decide
  | ⟨1, _⟩ => rfl
  | ⟨2, _⟩ => rfl

/-! ## The reference's run -/

/-- The reference terminates with its result at `result` of its arguments, the arguments unchanged and no counter left. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v9) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run _ _ _).mono (fun r h => ⟨h, sem_eq_zero_of_no_sems (by decide) r.2⟩) (Value.run m ρ)

/-! ## The preconditions -/

/-- A one-bit "and" is one only of two ones. -/
theorem both_one : ∀ a b : BitVec 1, a &&& b = 1#1 → a = 1#1 ∧ b = 1#1 := by decide

/-- A comparison for equality is one only of equal words. -/
theorem eq_of_cmp (a b : BitVec 32) (h : IntOp.cmpi .eq a b = 1#1) : a = b := by
  by_contra hne
  rw [show IntOp.cmpi .eq a b = BitVec.ofBool (a == b) from rfl, beq_eq_false_iff_ne.mpr hne] at h
  exact absurd h (by decide)

/-- One word cut out of a table and made a scalar is that word. -/
theorem word_at (k : Fin 2) (T : IVec S2 32) (off : Fin 1 → ℕ) (ho : off 0 = k.val) (hs : S2.Slices off ⟨1, ![1]⟩)
    (hc : (⟨1, ![1]⟩ : Shape).ShapeCasts ⟨0, ![]⟩) (i : (⟨0, ![]⟩ : Shape).Idx) :
    shapeCast ⟨0, ![]⟩ (extractStridedSlice ⟨1, ![1]⟩ off T hs) hc i = T (Exchange.place k) := by
  unfold shapeCast
  generalize Shape.reshapeEquiv hc i = j
  refine congrArg T (funext fun a => Fin.ext ?_)
  obtain rfl : a = (0 : Fin 1) := Subsingleton.elim _ _
  have h1 : (j 0).val = 0 := Nat.lt_one_iff.mp (j 0).isLt
  show off 0 + (j 0).val = k.val
  omega

/-- The first precondition, on every device, says that every device's table exchanges. -/
theorem swapping_of_pre {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_swaps_Kernel.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) : Exchange.Swapping m := by
  intro c
  obtain ⟨ha, hb⟩ := both_one _ _ (congrFun (h c) (fun a => a.elim0))
  exact ⟨(word_at 0 _ _ rfl _ _ _).symm.trans (eq_of_cmp _ _ ha), (word_at 1 _ _ rfl _ _ _).symm.trans (eq_of_cmp _ _ hb)⟩

/-- The second says that every device's table leaves. -/
theorem staying_of_pre {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_stays_Kernel.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) : Stay.Staying m := by
  intro c
  obtain ⟨ha, hb⟩ := both_one _ _ (congrFun (h c) (fun a => a.elim0))
  exact ⟨(word_at 0 _ _ rfl _ _ _).symm.trans (eq_of_cmp _ _ ha), (word_at 1 _ _ rfl _ _ _).symm.trans (eq_of_cmp _ _ hb)⟩

end Cert.Gathered

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_swaps_ReferenceIdeal
public import proofs.«01_k».proof.Proof.Gen.Pre_stays_Kernel
public import proofs.«01_k».proof.Proof.Gen.Pre_stays_ReferenceIdeal
public import proofs.«01_k».proof.Proof.Gathered
public import Idealize.ShloMosaic.Adequacy
public import Idealize.ShloMosaic.Init

@[expose] public section

noncomputable section

namespace Cert.Proof

open Idealize.ShloMosaic Idealize.SL.Sem Cert.Kernel

/-- The published kernel and its reading over the reals have one body table: they are one text. -/
theorem table_same : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- So have the whole programs. -/
theorem defs_same : Cert.Kernel.defs (F := Bits) = Cert.KernelIdeal.defs (F := Bits) :=
  congrArg (Pipeline.defs (Cert.KernelIdeal.pcfgs (F := Bits))) table_same

/-- A run of the reading on bits is a run of the published kernel. -/
theorem published (m : (ℓ : Loc Cert.Kernel.nD Cert.Kernel.τ Cert.Kernel.sig) → Buf (Elt Bits) ℓ) (ρ : Dev Cert.Kernel.nD → PrngReg)
    {out : Dev Cert.KernelIdeal.nD → MemSt Cert.KernelIdeal.nD Cert.KernelIdeal.τ Cert.KernelIdeal.sig (Elt Bits) → Prop}
    (h : θ_run (Cert.KernelIdeal.defs (F := Bits)) (onTc (τ := Cert.KernelIdeal.τ) (Cert.KernelIdeal.main (F := Bits))) ⟨m, fun _ => 0, ρ⟩
      (fun r => (∀ c : Dev Cert.KernelIdeal.nD, out c r.2
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0)) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same]
  exact (θ_run (Cert.KernelIdeal.defs (F := Bits)) _ _).mono (fun _ h => ⟨fun c => (h.1 c).2, h.2⟩) h

/-- The kernel as published, with tables that exchange, runs and leaves its arguments and every counter as they were. -/
theorem frame_kernel : Cert.quiescent_Kernel := fun m ρ hpre =>
  published m ρ (out := fun c s => s.mem ((c.tc : Thread Cert.KernelIdeal.nD Cert.KernelIdeal.τ).loc Cert.KernelIdeal.main_v1)
    = m (((Cert.Exchange.peer c).tc : Thread Cert.KernelIdeal.nD Cert.KernelIdeal.τ).loc Cert.KernelIdeal.main_arg0)) (Cert.Exchange.run_main (F := Bits) m ρ (Cert.Gathered.swapping_of_pre (F := Bits) m hpre))

/-- So it does with tables that leave. -/
theorem frame_kernel_stays : Cert.quiescent_Kernel_pre_stays_Kernel := fun m ρ hpre =>
  published m ρ (out := fun c s => s.mem ((c.tc : Thread Cert.KernelIdeal.nD Cert.KernelIdeal.τ).loc Cert.KernelIdeal.main_v1)
    = m (((c).tc : Thread Cert.KernelIdeal.nD Cert.KernelIdeal.τ).loc Cert.KernelIdeal.main_arg0)) (Cert.Stay.run_main (F := Bits) m ρ (Cert.Gathered.staying_of_pre (F := Bits) m hpre))

/-- So does its reading over the reals, with tables that exchange, -/
theorem frame_ideal : Cert.quiescent_KernelIdeal := fun m ρ hpre =>
  (θ_run _ _ _).mono (fun _ h => ⟨fun c => (h.1 c).2, h.2⟩)
    (Cert.Exchange.run_main (F := Ideal) m ρ (Cert.Gathered.swapping_of_pre (F := Ideal) m hpre))

/-- and with tables that leave. -/
theorem frame_ideal_stays : Cert.quiescent_KernelIdeal_pre_stays_Kernel := fun m ρ hpre =>
  (θ_run _ _ _).mono (fun _ h => ⟨fun c => (h.1 c).2, h.2⟩)
    (Cert.Stay.run_main (F := Ideal) m ρ (Cert.Gathered.staying_of_pre (F := Ideal) m hpre))

/-- The reference runs and leaves its arguments and every counter as they were, -/
theorem frame_reference : Cert.quiescent_ReferenceIdeal := fun m ρ _ =>
  (θ_run _ _ _).mono (fun _ h => ⟨fun c => (h.1 c).2, h.2⟩) (Cert.Gathered.run m ρ)

/-- also under the first precondition -/
theorem frame_reference_swaps : Cert.quiescent_ReferenceIdeal_pre_swaps_ReferenceIdeal := fun m ρ _ => frame_reference m ρ trivial

/-- and under the second. -/
theorem frame_reference_stays : Cert.quiescent_ReferenceIdeal_pre_stays_ReferenceIdeal := fun m ρ _ => frame_reference m ρ trivial

/-- With tables that exchange, over the reals every device's result is its block of the reference's result. -/
theorem value : Cert.algebraic_KernelIdeal_ReferenceIdeal := fun m ρ m' ρ' hpre hm => by
  have hsw := Cert.Gathered.swapping_of_pre (F := Ideal) m hpre
  have ht : (m' (((0 : Dev Cert.ReferenceIdeal.nD).tc : Thread Cert.ReferenceIdeal.nD Cert.ReferenceIdeal.τ).loc Cert.ReferenceIdeal.main_arg1)) = Cert.Gathered.flipped :=
    (hm 0).2.symm.trans (Cert.Gathered.eq_flipped _ (hsw 0).1 (hsw 0).2)
  refine ⟨Cert.Gathered.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun _ h c => ⟨?_, (h.1 c).2⟩) (Cert.Exchange.run_main (F := Ideal) m ρ hsw)
    rw [ht, Cert.Gathered.result_flipped]
    exact (h.1 c).1.trans ((hm (Cert.Exchange.peer c)).1.trans (Cert.Gathered.block_other c _).symm)
  · exact (θ_run _ _ _).mono (fun _ h => h.1 0) (Cert.Gathered.run m' ρ')

/-- So it is with tables that leave. -/
theorem value_stays : Cert.algebraic_KernelIdeal_ReferenceIdeal_pre_stays_Kernel := fun m ρ m' ρ' hpre hm => by
  have hst := Cert.Gathered.staying_of_pre (F := Ideal) m hpre
  have ht : (m' (((0 : Dev Cert.ReferenceIdeal.nD).tc : Thread Cert.ReferenceIdeal.nD Cert.ReferenceIdeal.τ).loc Cert.ReferenceIdeal.main_arg1)) = Cert.Gathered.kept :=
    (hm 0).2.symm.trans (Cert.Gathered.eq_kept _ (hst 0).1 (hst 0).2)
  refine ⟨Cert.Gathered.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun _ h c => ⟨?_, (h.1 c).2⟩) (Cert.Stay.run_main (F := Ideal) m ρ hst)
    rw [ht, Cert.Gathered.result_kept]
    exact (h.1 c).1.trans (hm c).1
  · exact (θ_run _ _ _).mono (fun _ h => h.1 0) (Cert.Gathered.run m' ρ')

theorem claim : Cert.Claim := ⟨Cert.Kernel.Gen.facts, Cert.KernelIdeal.Gen.facts, Cert.ReferenceIdeal.Gen.facts, Cert.Pre_swaps_Kernel.Gen.facts, Cert.Pre_stays_Kernel.Gen.facts,
  Cert.Pre_swaps_ReferenceIdeal.Gen.facts, Cert.Pre_stays_ReferenceIdeal.Gen.facts,
  frame_kernel, frame_kernel_stays, frame_ideal, frame_ideal_stays, frame_reference, frame_reference_swaps, frame_reference_stays, trivial, value, value_stays⟩

end Cert.Proof

end
